-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S18x8x2x512 Cert.KernelIdeal.S18x8x1x512
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.Statement Cert.KernelIdeal.S1x8x2x256 Cert.KernelIdeal.S1x8x1x256
  ∧ IdealRules.bf16_pair.Statement Cert.KernelIdeal.S16x256 Cert.KernelIdeal.S8x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x4608 : Shape := ⟨3, ![192, 1, 4608]⟩
abbrev S36864x2304 : Shape := ⟨2, ![36864, 2304]⟩
abbrev S36864x18 : Shape := ⟨2, ![36864, 18]⟩
abbrev S36864x18x12 : Shape := ⟨3, ![36864, 18, 12]⟩
abbrev S192x4608 : Shape := ⟨2, ![192, 4608]⟩
abbrev S18x36864 : Shape := ⟨2, ![18, 36864]⟩
abbrev S18x12x36864 : Shape := ⟨3, ![18, 12, 36864]⟩
abbrev S192x36864 : Shape := ⟨2, ![192, 36864]⟩
abbrev S512x2304 : Shape := ⟨2, ![512, 2304]⟩
abbrev S18x512 : Shape := ⟨2, ![18, 512]⟩
abbrev S18x12x512 : Shape := ⟨3, ![18, 12, 512]⟩
abbrev S192x512 : Shape := ⟨2, ![192, 512]⟩
abbrev S18x8x512 : Shape := ⟨3, ![18, 8, 512]⟩
abbrev S192x128 : Shape := ⟨2, ![192, 128]⟩
abbrev S192x128x1 : Shape := ⟨3, ![192, 128, 1]⟩
abbrev S8x128 : Shape := ⟨2, ![8, 128]⟩
abbrev S18x128 : Shape := ⟨2, ![18, 128]⟩
abbrev S1x12x128 : Shape := ⟨3, ![1, 12, 128]⟩
abbrev S12x128 : Shape := ⟨2, ![12, 128]⟩
abbrev S4x128 : Shape := ⟨2, ![4, 128]⟩
abbrev S1x128 : Shape := ⟨2, ![1, 128]⟩
abbrev S16x128 : Shape := ⟨2, ![16, 128]⟩
abbrev S1x8x128 : Shape := ⟨3, ![1, 8, 128]⟩
abbrev S192x256 : Shape := ⟨2, ![192, 256]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x8x256 : Shape := ⟨3, ![1, 8, 256]⟩
abbrev S8x256 : Shape := ⟨2, ![8, 256]⟩
abbrev S16x256 : Shape := ⟨2, ![16, 256]⟩
abbrev S64x256 : Shape := ⟨2, ![64, 256]⟩
abbrev S2x256 : Shape := ⟨2, ![2, 256]⟩
abbrev S1x2x256 : Shape := ⟨3, ![1, 2, 256]⟩
abbrev S32x2x256 : Shape := ⟨3, ![32, 2, 256]⟩

abbrev nBuf : Space → Nat
  | .hbm => 10
  | .vmem => 13
  | .smem => 0
  | _ => 0

abbrev bufTy : (tb : Table) → Fin (tcTables nBuf tb) → BufTy
  | .hbm, ⟨0, _⟩ => ⟨S192x1x4608, .bf16⟩
  | .hbm, ⟨1, _⟩ => ⟨S36864x2304, .i8⟩
  | .hbm, ⟨2, _⟩ => ⟨S36864x18, .i16⟩
  | .hbm, ⟨3, _⟩ => ⟨S36864x18, .i16⟩
  | .hbm, ⟨4, _⟩ => ⟨S36864x18x12, .i8⟩
  | .hbm, ⟨5, _⟩ => ⟨S192x4608, .bf16⟩
  | .hbm, ⟨6, _⟩ => ⟨S18x36864, .i16⟩
  | .hbm, ⟨7, _⟩ => ⟨S18x36864, .i16⟩
  | .hbm, ⟨8, _⟩ => ⟨S18x12x36864, .i8⟩
  | .hbm, ⟨9, _⟩ => ⟨S192x36864, .bf16⟩
  | .local _ .vmem, ⟨0, _⟩ => ⟨S192x4608, .bf16⟩
  | .local _ .vmem, ⟨1, _⟩ => ⟨S512x2304, .i8⟩
  | .local _ .vmem, ⟨2, _⟩ => ⟨S512x2304, .i8⟩
  | .local _ .vmem, ⟨3, _⟩ => ⟨S18x512, .i16⟩
  | .local _ .vmem, ⟨4, _⟩ => ⟨S18x512, .i16⟩
  | .local _ .vmem, ⟨5, _⟩ => ⟨S18x512, .i16⟩
  | .local _ .vmem, ⟨6, _⟩ => ⟨S18x512, .i16⟩
  | .local _ .vmem, ⟨7, _⟩ => ⟨S18x12x512, .i8⟩
  | .local _ .vmem, ⟨8, _⟩ => ⟨S18x12x512, .i8⟩
  | .local _ .vmem, ⟨9, _⟩ => ⟨S192x512, .bf16⟩
  | .local _ .vmem, ⟨10, _⟩ => ⟨S192x512, .bf16⟩
  | .local _ .vmem, ⟨11, _⟩ => ⟨S192x4608, .bf16⟩
  | .local _ .vmem, ⟨12, _⟩ => ⟨S18x8x512, .i32⟩
  | _, _ => ⟨S192x1x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S18x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S18x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S18x12x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
abbrev S18x8x2x512 : Shape := ⟨4, ![18, 8, 2, 512]⟩
abbrev S18x8x1x512 : Shape := ⟨4, ![18, 8, 1, 512]⟩
abbrev S1x8x2x128 : Shape := ⟨4, ![1, 8, 2, 128]⟩
abbrev S1x8x1x128 : Shape := ⟨4, ![1, 8, 1, 128]⟩
abbrev S1x8x2x256 : Shape := ⟨4, ![1, 8, 2, 256]⟩
abbrev S1x8x1x256 : Shape := ⟨4, ![1, 8, 1, 256]⟩
  | .local _ .vmem, ⟨12, _⟩ => ⟨S18x8x2x512, .bf16⟩
variable {F : FTy → Type} [FloatOps F]
-- ==== ReferenceIdeal.lean ====
abbrev S192x1x4608 : Shape := ⟨3, ![192, 1, 4608]⟩
abbrev S36864x2304 : Shape := ⟨2, ![36864, 2304]⟩
abbrev S36864x18 : Shape := ⟨2, ![36864, 18]⟩
abbrev S36864x18x12 : Shape := ⟨3, ![36864, 18, 12]⟩
abbrev S36864x18x4 : Shape := ⟨3, ![36864, 18, 4]⟩
abbrev S_ : Shape := ⟨0, ![]⟩
abbrev S36864x18x8 : Shape := ⟨3, ![36864, 18, 8]⟩
abbrev S36864x18x1 : Shape := ⟨3, ![36864, 18, 1]⟩
abbrev S36864x72x2 : Shape := ⟨3, ![36864, 72, 2]⟩
abbrev S36864x72x32 : Shape := ⟨3, ![36864, 72, 32]⟩
abbrev S36864x72x1 : Shape := ⟨3, ![36864, 72, 1]⟩
abbrev S192x1x72x2x32 : Shape := ⟨5, ![192, 1, 72, 2, 32]⟩
abbrev S192x1x72x1x32 : Shape := ⟨5, ![192, 1, 72, 1, 32]⟩
abbrev S192x1x72x32 : Shape := ⟨4, ![192, 1, 72, 32]⟩
abbrev S192x1x36864 : Shape := ⟨3, ![192, 1, 36864]⟩
abbrev S192x36864 : Shape := ⟨2, ![192, 36864]⟩

abbrev nBuf : Space → Nat
  | .hbm => 187
  | .vmem => 0
  | .smem => 0
  | _ => 0

abbrev hbmTy0_0 (i : Nat) : BufTy := match i % 128 with
  | 0 => ⟨S192x1x4608, .bf16⟩
  | 1 => ⟨S36864x2304, .i8⟩
  | 2 => ⟨S36864x18, .i16⟩
  | 3 => ⟨S36864x18, .i16⟩
  | 4 => ⟨S36864x18x12, .i8⟩
  | 5 => ⟨S36864x18x12, .i32⟩
  | 6 => ⟨S36864x18x4, .i32⟩
  | 7 => ⟨S36864x18x4, .i32⟩
  | 8 => ⟨S36864x18x4, .i32⟩
  | 9 => ⟨S_, .i32⟩
  | 10 => ⟨S36864x18x4, .i32⟩
  | 11 => ⟨S36864x18x4, .i32⟩
  | 12 => ⟨S_, .i32⟩
  | 13 => ⟨S36864x18x4, .i32⟩
  | 14 => ⟨S36864x18x4, .i32⟩
  | 15 => ⟨S_, .i32⟩
  | 16 => ⟨S36864x18x4, .i32⟩
  | 17 => ⟨S36864x18x4, .i32⟩
  | 18 => ⟨S_, .i32⟩
  | 19 => ⟨S36864x18x4, .i32⟩
  | 20 => ⟨S36864x18x4, .i32⟩
  | 21 => ⟨S36864x18x4, .i32⟩
  | 22 => ⟨S36864x18x8, .i32⟩
  | 23 => ⟨S_, .i32⟩
  | 24 => ⟨S36864x18x4, .i32⟩
  | 25 => ⟨S36864x18x4, .i32⟩
  | 26 => ⟨S_, .i32⟩
  | 27 => ⟨S36864x18x4, .i32⟩
  | 28 => ⟨S36864x18x4, .i32⟩
  | 29 => ⟨S_, .i32⟩
  | 30 => ⟨S36864x18x4, .i32⟩
  | 31 => ⟨S36864x18x4, .i32⟩
  | 32 => ⟨S_, .i32⟩
  | 33 => ⟨S36864x18x4, .i32⟩
  | 34 => ⟨S36864x18x4, .i32⟩
  | 35 => ⟨S36864x18x4, .i32⟩
  | 36 => ⟨S36864x18x8, .i32⟩
  | 37 => ⟨S36864x18, .i32⟩
  | 38 => ⟨S_, .i32⟩
  | 39 => ⟨S36864x18, .i32⟩
  | 40 => ⟨S36864x18, .i32⟩
  | 41 => ⟨S_, .i32⟩
  | 42 => ⟨S36864x18, .i32⟩
  | 43 => ⟨S36864x18, .i1⟩
  | 44 => ⟨S_, .f32⟩
  | 45 => ⟨S_, .f32⟩
  | 46 => ⟨S36864x18, .f32⟩
  | 47 => ⟨S36864x18, .f32⟩
  | 48 => ⟨S36864x18, .f32⟩
  | 49 => ⟨S_, .i32⟩
  | 50 => ⟨S36864x18, .i32⟩
  | 51 => ⟨S36864x18, .i32⟩
  | 52 => ⟨S_, .i32⟩
  | 53 => ⟨S36864x18, .i32⟩
  | 54 => ⟨S36864x18, .i32⟩
  | 55 => ⟨S_, .i32⟩
  | 56 => ⟨S36864x18, .i32⟩
  | 57 => ⟨S36864x18, .i32⟩
  | 58 => ⟨S36864x18, .f32⟩
  | 59 => ⟨S_, .f32⟩
  | 60 => ⟨S36864x18, .f32⟩
  | 61 => ⟨S36864x18, .f32⟩
  | 62 => ⟨S_, .f32⟩
  | 63 => ⟨S36864x18, .f32⟩
  | 64 => ⟨S36864x18, .f32⟩
  | 65 => ⟨S_, .i32⟩
  | 66 => ⟨S36864x18, .i32⟩
  | 67 => ⟨S36864x18, .i32⟩
  | 68 => ⟨S36864x18, .f32⟩
  | 69 => ⟨S_, .f32⟩
  | 70 => ⟨S36864x18, .f32⟩
  | 71 => ⟨S36864x18, .f32⟩
  | 72 => ⟨S36864x18, .f32⟩
  | 73 => ⟨S_, .f32⟩
  | 74 => ⟨S36864x18, .f32⟩
  | 75 => ⟨S36864x18, .i1⟩
  | 76 => ⟨S_, .f32⟩
  | 77 => ⟨S_, .f32⟩
  | 78 => ⟨S36864x18, .f32⟩
  | 79 => ⟨S36864x18, .f32⟩
  | 80 => ⟨S36864x18, .f32⟩
  | 81 => ⟨S_, .i32⟩
  | 82 => ⟨S36864x18, .i32⟩
  | 83 => ⟨S36864x18, .i1⟩
  | 84 => ⟨S_, .i32⟩
  | 85 => ⟨S36864x18, .i32⟩
  | 86 => ⟨S36864x18, .i1⟩
  | 87 => ⟨S36864x18, .f32⟩
  | 88 => ⟨S36864x18, .f32⟩
  | 89 => ⟨S36864x18, .f32⟩
  | 90 => ⟨S36864x18x1, .f32⟩
  | 91 => ⟨S36864x18x8, .f32⟩
  | 92 => ⟨S36864x18x8, .f32⟩
  | 93 => ⟨S36864x18x8, .f32⟩
  | 94 => ⟨S36864x18x8, .bf16⟩
  | 95 => ⟨S36864x18, .i32⟩
  | 96 => ⟨S_, .i32⟩
  | 97 => ⟨S36864x18, .i32⟩
  | 98 => ⟨S36864x18, .i32⟩
  | 99 => ⟨S_, .i32⟩
  | 100 => ⟨S36864x18, .i32⟩
  | 101 => ⟨S36864x18, .i1⟩
  | 102 => ⟨S_, .f32⟩
  | 103 => ⟨S_, .f32⟩
  | 104 => ⟨S36864x18, .f32⟩
  | 105 => ⟨S36864x18, .f32⟩
  | 106 => ⟨S36864x18, .f32⟩
  | 107 => ⟨S_, .i32⟩
  | 108 => ⟨S36864x18, .i32⟩
  | 109 => ⟨S36864x18, .i32⟩
  | 110 => ⟨S_, .i32⟩
  | 111 => ⟨S36864x18, .i32⟩
  | 112 => ⟨S36864x18, .i32⟩
  | 113 => ⟨S_, .i32⟩
  | 114 => ⟨S36864x18, .i32⟩
  | 115 => ⟨S36864x18, .i32⟩
  | 116 => ⟨S36864x18, .f32⟩
  | 117 => ⟨S_, .f32⟩
  | 118 => ⟨S36864x18, .f32⟩
  | 119 => ⟨S36864x18, .f32⟩
  | 120 => ⟨S_, .f32⟩
  | 121 => ⟨S36864x18, .f32⟩
  | 122 => ⟨S36864x18, .f32⟩
  | 123 => ⟨S_, .i32⟩
  | 124 => ⟨S36864x18, .i32⟩
  | 125 => ⟨S36864x18, .i32⟩
  | 126 => ⟨S36864x18, .f32⟩
  | 127 => ⟨S_, .f32⟩
  | _ => ⟨S192x1x4608, .bf16⟩

abbrev hbmTy0_1 (i : Nat) : BufTy := match i % 128 with
  | 0 => ⟨S36864x18, .f32⟩
  | 1 => ⟨S36864x18, .f32⟩
  | 2 => ⟨S36864x18, .f32⟩
  | 3 => ⟨S_, .f32⟩
  | 4 => ⟨S36864x18, .f32⟩
  | 5 => ⟨S36864x18, .i1⟩
  | 6 => ⟨S_, .f32⟩
  | 7 => ⟨S_, .f32⟩
  | 8 => ⟨S36864x18, .f32⟩
  | 9 => ⟨S36864x18, .f32⟩
  | 10 => ⟨S36864x18, .f32⟩
  | 11 => ⟨S_, .i32⟩
  | 12 => ⟨S36864x18, .i32⟩
  | 13 => ⟨S36864x18, .i1⟩
  | 14 => ⟨S_, .i32⟩
  | 15 => ⟨S36864x18, .i32⟩
  | 16 => ⟨S36864x18, .i1⟩
  | 17 => ⟨S36864x18, .f32⟩
  | 18 => ⟨S36864x18, .f32⟩
  | 19 => ⟨S36864x18, .f32⟩
  | 20 => ⟨S36864x18x1, .f32⟩
  | 21 => ⟨S36864x18x8, .f32⟩
  | 22 => ⟨S36864x18x8, .f32⟩
  | 23 => ⟨S36864x18x8, .f32⟩
  | 24 => ⟨S36864x18x8, .bf16⟩
  | 25 => ⟨S36864x72x2, .bf16⟩
  | 26 => ⟨S36864x72x2, .bf16⟩
  | 27 => ⟨S36864x2304, .i32⟩
  | 28 => ⟨S36864x72x32, .i32⟩
  | 29 => ⟨S_, .i32⟩
  | 30 => ⟨S36864x72x32, .i32⟩
  | 31 => ⟨S36864x72x32, .i32⟩
  | 32 => ⟨S36864x72x32, .bf16⟩
  | 33 => ⟨S_, .i32⟩
  | 34 => ⟨S36864x72x32, .i32⟩
  | 35 => ⟨S36864x72x32, .i32⟩
  | 36 => ⟨S36864x72x32, .bf16⟩
  | 37 => ⟨S36864x72x1, .bf16⟩
  | 38 => ⟨S36864x72x32, .bf16⟩
  | 39 => ⟨S36864x72x32, .bf16⟩
  | 40 => ⟨S36864x72x1, .bf16⟩
  | 41 => ⟨S36864x72x32, .bf16⟩
  | 42 => ⟨S36864x72x32, .bf16⟩
  | 43 => ⟨S36864x72x1, .bf16⟩
  | 44 => ⟨S36864x72x32, .bf16⟩
  | 45 => ⟨S36864x72x32, .bf16⟩
  | 46 => ⟨S36864x72x1, .bf16⟩
  | 47 => ⟨S36864x72x32, .bf16⟩
  | 48 => ⟨S36864x72x32, .bf16⟩
  | 49 => ⟨S192x1x72x2x32, .bf16⟩
  | 50 => ⟨S192x1x72x1x32, .bf16⟩
  | 51 => ⟨S192x1x72x32, .bf16⟩
  | 52 => ⟨S192x1x36864, .f32⟩
  | 53 => ⟨S192x1x72x1x32, .bf16⟩
  | 54 => ⟨S192x1x72x32, .bf16⟩
  | 55 => ⟨S192x1x36864, .f32⟩
  | 56 => ⟨S192x1x36864, .f32⟩
  | 57 => ⟨S192x1x36864, .bf16⟩
  | 58 => ⟨S192x36864, .bf16⟩
  | _ => ⟨S192x1x4608, .bf16⟩

abbrev hbmTy (i : Nat) : BufTy := match i / 128 with
  | 0 => hbmTy0_0 i
  | 1 => hbmTy0_1 i
  | _ => ⟨S192x1x4608, .bf16⟩

abbrev bufTy : (tb : Table) → Fin (tcTables nBuf tb) → BufTy
  | .hbm, ⟨i, _⟩ => hbmTy i
  | _, _ => ⟨S192x1x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_cst : Ref sig .tc := ⟨.hbm, 44, rfl⟩
abbrev main_cst_9 : Ref sig .tc := ⟨.hbm, 45, rfl⟩
abbrev main_call0_v0 : Ref sig .tc := ⟨.hbm, 46, rfl⟩
abbrev main_call0_v1 : Ref sig .tc := ⟨.hbm, 47, rfl⟩
abbrev main_v29 : Ref sig .tc := ⟨.hbm, 48, rfl⟩
abbrev main_c_10 : Ref sig .tc := ⟨.hbm, 49, rfl⟩
abbrev main_v30 : Ref sig .tc := ⟨.hbm, 50, rfl⟩
abbrev main_v31 : Ref sig .tc := ⟨.hbm, 51, rfl⟩
abbrev main_c_11 : Ref sig .tc := ⟨.hbm, 52, rfl⟩
abbrev main_v32 : Ref sig .tc := ⟨.hbm, 53, rfl⟩
abbrev main_v33 : Ref sig .tc := ⟨.hbm, 54, rfl⟩
abbrev main_c_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_c_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_16 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_17 : Ref sig .tc := ⟨.hbm, 73, rfl⟩
abbrev main_v47 : Ref sig .tc := ⟨.hbm, 74, rfl⟩
abbrev main_v48 : Ref sig .tc := ⟨.hbm, 75, rfl⟩
abbrev main_cst_18 : Ref sig .tc := ⟨.hbm, 76, rfl⟩
abbrev main_cst_19 : Ref sig .tc := ⟨.hbm, 77, rfl⟩
abbrev main_call1_v0 : Ref sig .tc := ⟨.hbm, 78, rfl⟩
abbrev main_call1_v1 : Ref sig .tc := ⟨.hbm, 79, rfl⟩
abbrev main_v49 : Ref sig .tc := ⟨.hbm, 80, rfl⟩
abbrev main_c_20 : Ref sig .tc := ⟨.hbm, 81, rfl⟩
abbrev main_v50 : Ref sig .tc := ⟨.hbm, 82, rfl⟩
abbrev main_v51 : Ref sig .tc := ⟨.hbm, 83, rfl⟩
abbrev main_c_21 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_22 : Ref sig .tc := ⟨.hbm, 96, rfl⟩
abbrev main_v63 : Ref sig .tc := ⟨.hbm, 97, rfl⟩
abbrev main_v64 : Ref sig .tc := ⟨.hbm, 98, rfl⟩
abbrev main_c_23 : Ref sig .tc := ⟨.hbm, 99, rfl⟩
abbrev main_v65 : Ref sig .tc := ⟨.hbm, 100, rfl⟩
abbrev main_v66 : Ref sig .tc := ⟨.hbm, 101, rfl⟩
abbrev main_cst_24 : Ref sig .tc := ⟨.hbm, 102, rfl⟩
abbrev main_cst_25 : Ref sig .tc := ⟨.hbm, 103, rfl⟩
abbrev main_call4_v0 : Ref sig .tc := ⟨.hbm, 104, rfl⟩
abbrev main_call4_v1 : Ref sig .tc := ⟨.hbm, 105, rfl⟩
abbrev main_v67 : Ref sig .tc := ⟨.hbm, 106, rfl⟩
abbrev main_c_26 : Ref sig .tc := ⟨.hbm, 107, rfl⟩
abbrev main_v68 : Ref sig .tc := ⟨.hbm, 108, rfl⟩
abbrev main_v69 : Ref sig .tc := ⟨.hbm, 109, rfl⟩
abbrev main_c_27 : Ref sig .tc := ⟨.hbm, 110, rfl⟩
abbrev main_v70 : Ref sig .tc := ⟨.hbm, 111, rfl⟩
abbrev main_v71 : Ref sig .tc := ⟨.hbm, 112, rfl⟩
abbrev main_c_28 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_29 : Ref sig .tc := ⟨.hbm, 117, rfl⟩
abbrev main_v75 : Ref sig .tc := ⟨.hbm, 118, rfl⟩
abbrev main_v76 : Ref sig .tc := ⟨.hbm, 119, rfl⟩
abbrev main_cst_30 : Ref sig .tc := ⟨.hbm, 120, rfl⟩
abbrev main_v77 : Ref sig .tc := ⟨.hbm, 121, rfl⟩
abbrev main_v78 : Ref sig .tc := ⟨.hbm, 122, rfl⟩
abbrev main_c_31 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_32 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_33 : Ref sig .tc := ⟨.hbm, 131, rfl⟩
abbrev main_v85 : Ref sig .tc := ⟨.hbm, 132, rfl⟩
abbrev main_v86 : Ref sig .tc := ⟨.hbm, 133, rfl⟩
abbrev main_cst_34 : Ref sig .tc := ⟨.hbm, 134, rfl⟩
abbrev main_cst_35 : Ref sig .tc := ⟨.hbm, 135, rfl⟩
abbrev main_call5_v0 : Ref sig .tc := ⟨.hbm, 136, rfl⟩
abbrev main_call5_v1 : Ref sig .tc := ⟨.hbm, 137, rfl⟩
abbrev main_v87 : Ref sig .tc := ⟨.hbm, 138, rfl⟩
abbrev main_c_36 : Ref sig .tc := ⟨.hbm, 139, rfl⟩
abbrev main_v88 : Ref sig .tc := ⟨.hbm, 140, rfl⟩
abbrev main_v89 : Ref sig .tc := ⟨.hbm, 141, rfl⟩
abbrev main_c_37 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_38 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_c_39 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩

abbrev nD : Nat := 1
abbrev τ : Topo := Topo.v7x

variable {F : FTy → Type} [FloatOps F]
-- ==== Proof.Pieces.lean ====
module

public import proofs.«01_k».proof.Proof.Gen.KernelIdeal.Value

/-!
# What one grid point stores, in regular form

The body of the kernel is unrolled: 72 stores of decoded scales, 36 stores of permuted activations, and two tiles of
18 products each. This module names the repeated unit of each group once (`decodeTile`, `permTile`, `step`/`accTo`) and
states that the pieces a run of the body writes are exactly these units, one per index. The unrolled text and the
regular text are the same operations in the same order, so each statement is an equation by definition.
-/

@[expose] public section
set_option maxRecDepth 16384
noncomputable section
namespace Cert.KernelIdeal.Value
open Cert.KernelIdeal Cert.KernelIdeal.Gen Idealize.ShloMosaic Idealize.ShloMosaic.TcCoe Idealize.SL.Sem
variable {F : FTy → Type} [FloatOps F]

/-! ## The loads and stores lie inside their buffers -/

/-- The codes of tile `t`, step `k`. -/
theorem inbCode (t : Fin 2) (k : Fin 18) : ∀ a, (![256 * t.val, 128 * k.val] : Fin 2 → Nat) a + S256x128.size a ≤ S512x2304.size a := by
  revert t k; decide +kernel
/-- The decoded scales of tile `t`, step `k`. -/
theorem inbRaw (t : Fin 2) (k : Fin 18) : ∀ a, (![k.val, 0, 0, 256 * t.val] : Fin 4 → Nat) a + S1x8x2x256.size a ≤ S18x8x2x512.size a := by
  revert t k; decide +kernel
/-- The activations of step `k`. -/
theorem inbX (k : Fin 18) : ∀ a, (![0, 256 * k.val] : Fin 2 → Nat) a + S192x256.size a ≤ S192x4608.size a := by
  revert k; decide +kernel
/-- The columns of the result that tile `t` stores. -/
theorem inbTile (t : Fin 2) : ∀ a, (![0, 256 * t.val] : Fin 2 → Nat) a + S192x256.size a ≤ S192x512.size a := by
  revert t; decide +kernel

/-- The half-precision words of column slab `j`. -/
theorem inbHalf (j : Fin 4) : ∀ a, (![0, 128 * j.val] : Fin 2 → Nat) a + S18x128.size a ≤ S18x512.size a := by
  revert j; decide +kernel
/-- The packed scale bytes of super-block `k`, column slab `j`. -/
theorem inbBytes (j : Fin 4) (k : Fin 18) : ∀ a, (![k.val, 0, 128 * j.val] : Fin 3 → Nat) a + S1x12x128.size a ≤ S18x12x512.size a := by
  revert j k; decide +kernel
/-- The decoded scales of super-block `k`, column slab `j`. -/
theorem inbScale (j : Fin 4) (k : Fin 18) : ∀ a, (![k.val, 0, 0, 128 * j.val] : Fin 4 → Nat) a + S1x8x2x128.size a ≤ S18x8x2x512.size a := by
  revert j k; decide +kernel
/-- Lane group `n` of the activations. -/
theorem inbLane (n : Fin 36) : ∀ a, (![0, 128 * n.val] : Fin 2 → Nat) a + S192x128.size a ≤ S192x4608.size a := by
  revert n; decide +kernel
/-- Row `k` of a slab of half-precision values. -/
theorem slicesRow (k : Fin 18) : S18x128.Slices ![k.val, 0] S1x128 := by
  revert k; decide +kernel

/-! ## The repeated units -/

/-- One step of a tile's accumulation: the step's weights are rebuilt from the codes `cd` and the decoded scales `raw`,
and the product of the activations `xl` with them is added. -/
def step (acc : FVec F S192x256 .f32) (cd : Vec F S256x128 .i8) (raw : Vec F S1x8x2x256 .bf16) (xl : Vec F S192x256 .bf16) :
    FVec F S192x256 .f32 :=
  k0_pay490 acc (k0_pay489 (k0_pay488 cd) raw) xl

/-- The accumulator of a tile after `n` steps. -/
def accTo (cd : Fin 18 → Vec F S256x128 .i8) (raw : Fin 18 → Vec F S1x8x2x256 .bf16) (xl : Fin 18 → Vec F S192x256 .bf16) :
    (n : Nat) → n ≤ 18 → FVec F S192x256 .f32
  | 0, _ => constant S192x256 .f32 0x00000000#32
  | n + 1, h => step (accTo cd raw xl n (Nat.le_of_succ_le h)) (cd ⟨n, h⟩) (raw ⟨n, h⟩) (xl ⟨n, h⟩)

/-- The sixteen scales and offsets of super-block `k` in one column slab, as they are stored: the 12 packed bytes `b`
give eight six-bit codes twice over, each times the super-block's scale `d` or offset step `dm`. -/
def decodeTile (k : Fin 18) (d dm : FVec F S18x128 .f32) (b : Vec F S1x12x128 .i8) : Vec F S1x8x2x128 .bf16 :=
  have w1 : IVec S12x128 8 := shapeCast S12x128 b shapeCasts_S1x12x128_S12x128
  have w2 : IVec S12x128 32 := extui 32 w1 natLt_8_32
  have w3 : IVec S8x128 32 := extractStridedSlice S8x128 ![0, 0] w2 slices_S12x128_o0_0_S8x128
  have w4 : IVec S4x128 32 := extractStridedSlice S4x128 ![8, 0] w2 slices_S12x128_o8_0_S4x128
  have w5 : IVec S8x128 32 := broadcast S8x128 63#32
  have w6 : IVec S8x128 32 := andi w3 w5
  have w7 : IVec S4x128 32 := broadcast S4x128 15#32
  have w8 : IVec S4x128 32 := andi w4 w7
  have w9 : IVec S4x128 32 := broadcast S4x128 4#32
  have w10 : IVec S4x128 32 := shrsi w4 w9
  have w11 : IVec S8x128 32 := concatenate S8x128 0 [⟨S4x128, w8⟩, ⟨S4x128, w10⟩] concatenates_S4x128_S4x128_S8x128_d0
  have w12 : IVec S8x128 32 := broadcast S8x128 2#32
  have w13 : IVec S8x128 32 := shrsi w3 w12
  have w14 : IVec S8x128 32 := broadcast S8x128 48#32
  have w15 : IVec S8x128 32 := andi w13 w14
  have w16 : IVec S8x128 32 := ori w11 w15
  have w17 : FVec F S1x128 .f32 := extractStridedSlice S1x128 ![k.val, 0] d (slicesRow k)
  have w18 : FVec F S1x128 .f32 := extractStridedSlice S1x128 ![k.val, 0] dm (slicesRow k)
  have w19 : FVec F S1x128 .f32 := shapeCast S1x128 w17 shapeCasts_S1x128_S1x128
  have w20 : FVec F S8x128 .f32 := broadcastTo S8x128 w19 broadcasts_S1x128_S8x128
  have w21 : FVec F S1x128 .f32 := shapeCast S1x128 w18 shapeCasts_S1x128_S1x128
  have w22 : FVec F S8x128 .f32 := broadcastTo S8x128 w21 broadcasts_S1x128_S8x128
  have w23 : FVec F S8x128 .f32 := select k0_pay56 w20 w22
  have w24 : FVec F S8x128 .f32 := sitofp .f32 w6
  have w25 : FVec F S8x128 .f32 := mulf w24 w23
  have w26 : FVec F S8x128 .f32 := sitofp .f32 w16
  have w27 : FVec F S8x128 .f32 := mulf w26 w23
  have w28 : FVec F S16x128 .f32 := concatenate S16x128 0 [⟨S8x128, w25⟩, ⟨S8x128, w27⟩] concatenates_S8x128_S8x128_S16x128_d0
  have w29 : FVec F S16x128 .bf16 := truncf .bf16 w28 bitsLt_bf16_f32
  have w30_lo : FVec F S8x128 .bf16 := rowsOfParity 0 S8x128 w29 bitcasts_S16x128_w16_S8x128_w32
  have w30_hi : FVec F S8x128 .bf16 := rowsOfParity 1 S8x128 w29 bitcasts_S16x128_w16_S8x128_w32
  have w33_lo : FVec F S1x8x128 .bf16 := shapeCast S1x8x128 w30_lo shapeCasts_S8x128_S1x8x128
  have w33_hi : FVec F S1x8x128 .bf16 := shapeCast S1x8x128 w30_hi shapeCasts_S8x128_S1x8x128
  have out : Vec F S1x8x2x128 .bf16 := interleaveRows S1x8x2x128 (shapeCast S1x8x1x128 w33_lo shapeCasts_S1x8x128_S1x8x1x128) (shapeCast S1x8x1x128 w33_hi shapeCasts_S1x8x128_S1x8x1x128) bitcasts_S1x8x2x128_w16_S1x8x1x128_w32
  out

/-- One lane group of the permuted activations. -/
def permTile (xl : Vec F S192x128 .bf16) : FVec F S192x128 .bf16 := k0_pay37 k0_pay2 xl

/-- The super-block of the `n`-th store of scales, counted from the last. -/
def kOf (n : Fin 72) : Fin 18 := ⟨(71 - n.val) % 18, Nat.mod_lt _ (by decide)⟩
/-- The column slab of the `n`-th store of scales, counted from the last. -/
def jOf (n : Fin 72) : Fin 4 := ⟨(71 - n.val) / 18, by omega⟩

/-- The loads of the half-precision words and of the packed bytes, as the body takes them. -/
def ldHalf (a : Memref sig .tc .vmem S18x512 .i16) (ha : a.IsWhole) (x : Vec F S18x512 .i16) (j : Fin 4) : Vec F S18x128 .i16 :=
  View.readAt (Elt F) a.view (Rect.unit (s := S18x512) ![0, 128 * j.val] S18x128.size (inbHalf j)).toLoadRect (ha.unread x)
/-- The load of the packed bytes of super-block `k`, slab `j`. -/
def ldBytes (a : Memref sig .tc .vmem S18x12x512 .i8) (ha : a.IsWhole) (x : Vec F S18x12x512 .i8) (j : Fin 4) (k : Fin 18) : Vec F S1x12x128 .i8 :=
  View.readAt (Elt F) a.view (Rect.unit (s := S18x12x512) ![k.val, 0, 128 * j.val] S1x12x128.size (inbBytes j k)).toLoadRect (ha.unread x)
/-- The load of the codes of tile `t`, step `k`. -/
def ldCode (a : Memref sig .tc .vmem S512x2304 .i8) (ha : a.IsWhole) (x : Vec F S512x2304 .i8) (t : Fin 2) (k : Fin 18) : Vec F S256x128 .i8 :=
  View.readAt (Elt F) a.view (Rect.unit (s := S512x2304) ![256 * t.val, 128 * k.val] S256x128.size (inbCode t k)).toLoadRect (ha.unread x)

/-- The 72 stores of decoded scales, last first. -/
def scalePieces (d dm : Fin 4 → Vec F S18x128 .i16) (b : Fin 4 → Fin 18 → Vec F S1x12x128 .i8) :
    List (View.Piece (Elt F) S18x8x2x512 .bf16) :=
  List.ofFn fun n : Fin 72 => ⟨Rect.unit ![(kOf n).val, 0, 0, 128 * (jOf n).val] S1x8x2x128.size (inbScale (jOf n) (kOf n)),
    decodeTile (kOf n) (k0_pay57 (d (jOf n))) (k0_pay57 (dm (jOf n))) (b (jOf n) (kOf n))⟩

/-- The 36 stores of permuted activations, last first. -/
def permPieces (xl : Fin 36 → Vec F S192x128 .bf16) : List (View.Piece (Elt F) S192x4608 .bf16) :=
  List.ofFn fun n : Fin 36 => ⟨Rect.unit ![0, 128 * (Fin.rev n).val] S192x128.size (inbLane (Fin.rev n)), permTile (xl (Fin.rev n))⟩

/-- The two stores of the result, last first. -/
def tilePieces (cd : Fin 2 → Fin 18 → Vec F S256x128 .i8) (raw : Fin 2 → Fin 18 → Vec F S1x8x2x256 .bf16)
    (xl : Fin 18 → Vec F S192x256 .bf16) : List (View.Piece (Elt F) S192x512 .bf16) :=
  List.ofFn fun n : Fin 2 => ⟨Rect.unit ![0, 256 * (Fin.rev n).val] S192x256.size (inbTile (Fin.rev n)),
    truncf .bf16 (accTo (cd (Fin.rev n)) (raw (Fin.rev n)) xl 18 (Nat.le_refl 18)) bitsLt_bf16_f32⟩

/-! ## The run's pieces are these -/

/-- The scale stores of a run in case A. -/
theorem scales_A (c : Dev nD) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (x2 : Vec F S18x512 .i16) (x3 : Vec F S18x512 .i16) (x4 : Vec F S18x12x512 .i8) :
    kernelRun0_A.sl.HS1_72 c arg3 harg3 arg4 harg4 arg5 harg5 x2 x3 x4 =
      scalePieces (ldHalf arg3 harg3 x2) (ldHalf arg4 harg4 x3) (ldBytes arg5 harg5 x4) := by
  sl_kernel_rfl

/-- The scale stores of a run in case B. -/
theorem scales_B (c : Dev nD) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (x2 : Vec F S18x512 .i16) (x3 : Vec F S18x512 .i16) (x4 : Vec F S18x12x512 .i8) :
    kernelRun0_B.sl.HS1_72 c arg3 harg3 arg4 harg4 arg5 harg5 x2 x3 x4 =
      scalePieces (ldHalf arg3 harg3 x2) (ldHalf arg4 harg4 x3) (ldBytes arg5 harg5 x4) := by
  sl_kernel_rfl

/-- The stores of permuted activations of the first grid point. -/
theorem perm_A (c : Dev nD) (arg1 : Memref sig .tc .vmem S192x4608 .bf16) (harg1 : arg1.IsWhole) (x0 : Vec F S192x4608 .bf16) :
    kernelRun0_A.sl.HS0_36 c arg1 harg1 x0 = permPieces fun n =>
      View.readAt (Elt F) arg1.view (Rect.unit (s := S192x4608) ![0, 128 * n.val] S192x128.size (inbLane n)).toLoadRect (harg1.unread x0) := by
  sl_kernel_rfl

/-- The carried buffer after the first grid point holds those stores. -/
theorem carried_A (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : cond0_0 i)
    (x0 : Vec F S192x4608 .bf16) (x1 : Vec F S512x2304 .i8) (x2 : Vec F S18x512 .i16) (x3 : Vec F S18x512 .i16) (x4 : Vec F S18x12x512 .i8) :
    (kernelRun0_A c i arg1 harg1 arg2 harg2 arg3 harg3 arg4 harg4 arg5 harg5 arg6 harg6 arg7 harg7 arg8 harg8 hc0 x0 x1 x2 x3 x4).2.1 = kernelRun0_A.sl.HS0_36 c arg1 harg1 x0 := by
  sl_kernel_rfl

/-- The stores of the result at a grid point after the first: the activations come from the carried buffer. -/
theorem tiles_B (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : ¬cond0_0 i)
    (x0 : Vec F S192x4608 .bf16) (x1 : Vec F S512x2304 .i8) (x2 : Vec F S18x512 .i16) (x3 : Vec F S18x512 .i16) (x4 : Vec F S18x12x512 .i8) (xs0 : Vec F S192x4608 .bf16) :
    (kernelRun0_B c i arg1 harg1 arg2 harg2 arg3 harg3 arg4 harg4 arg5 harg5 arg6 harg6 arg7 harg7 arg8 harg8 hc0 x0 x1 x2 x3 x4 xs0).1 = tilePieces (ldCode arg2 harg2 x1)
      (fun t k => arg8.view.readCov (kernelRun0_B.sl.HS1_72 c arg3 harg3 arg4 harg4 arg5 harg5 x2 x3 x4)
        (Rect.unit (s := S18x8x2x512) ![k.val, 0, 0, 256 * t.val] S1x8x2x256.size (inbRaw t k)).toLoadRect)
      (fun k => View.readAt (Elt F) arg7.view (Rect.unit (s := S192x4608) ![0, 256 * k.val] S192x256.size (inbX k)).toLoadRect (harg7.unread xs0)) := by
  sl_kernel_rfl

/-- The stores of the result at the first grid point: the activations are the ones just stored. -/
theorem tiles_A (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : cond0_0 i)
    (x0 : Vec F S192x4608 .bf16) (x1 : Vec F S512x2304 .i8) (x2 : Vec F S18x512 .i16) (x3 : Vec F S18x512 .i16) (x4 : Vec F S18x12x512 .i8) :
    (kernelRun0_A c i arg1 harg1 arg2 harg2 arg3 harg3 arg4 harg4 arg5 harg5 arg6 harg6 arg7 harg7 arg8 harg8 hc0 x0 x1 x2 x3 x4).1 = tilePieces (ldCode arg2 harg2 x1)
      (fun t k => arg8.view.readCov (kernelRun0_A.sl.HS1_72 c arg3 harg3 arg4 harg4 arg5 harg5 x2 x3 x4)
        (Rect.unit (s := S18x8x2x512) ![k.val, 0, 0, 256 * t.val] S1x8x2x256.size (inbRaw t k)).toLoadRect)
      (fun k => arg7.view.readCov (kernelRun0_A.sl.HS0_36 c arg1 harg1 x0)
        (Rect.unit (s := S192x4608) ![0, 256 * k.val] S192x256.size (inbX k)).toLoadRect) := by
  sl_kernel_rfl

end Cert.KernelIdeal.Value
-- ==== Proof.Half.lean ====
module

public import Idealize.ShloMosaic.Lib.Pipeline.ValueKit

/-!
# The value of a binary16 word

Two ways to read the 16 bits of an IEEE half-precision word as a number agree on every word: from the fields of the
word (`halfValue`, the way of the reference) and by moving the bits into the fields of a binary32 word (`halfRead`, the
way of the kernel).
-/

@[expose] public section
set_option maxRecDepth 16384
noncomputable section
namespace Cert.Half
open Idealize.ShloMosaic

/-- The number a binary16 word denotes, from its sign, exponent and fraction fields (`w` is the word widened). -/
def halfValue (w : BitVec 32) : EReal :=
  Scalar.select (IntOp.cmpi CmpIPredicate.eq (IntOp.shrsi ArithUnit.host w 15#32) 1#32) (Ideal.ofBits FTy.f32 3212836864#32) 1 *
    Scalar.select (IntOp.cmpi CmpIPredicate.eq (IntOp.andi (IntOp.shrsi ArithUnit.host w 10#32) 31#32) 31#32)
      (if FloatOps.sitofp (F := Ideal) FTy.f32 (IntOp.andi w 1023#32) = (0 : EReal) then Ideal.ofBits FTy.f32 2139095040#32
        else Ideal.ofBits FTy.f32 2143289344#32)
      (Scalar.select (IntOp.cmpi CmpIPredicate.eq (IntOp.andi (IntOp.shrsi ArithUnit.host w 10#32) 31#32) 0#32)
        ((FloatOps.sitofp (F := Ideal) FTy.f32 (IntOp.andi w 1023#32) : EReal) * Ideal.ofBits FTy.f32 864026624#32)
        (((Ideal.ofBits FTy.f32 1149239296#32 : EReal) + FloatOps.sitofp (F := Ideal) FTy.f32 (IntOp.andi w 1023#32)) *
          Ideal.pow (Ideal.ofBits FTy.f32 1073741824#32)
            (FloatOps.sitofp (F := Ideal) FTy.f32
              (IntOp.subi (IntOp.andi (IntOp.shrsi ArithUnit.host w 10#32) 31#32) 25#32))))

/-- The magnitude bits of a binary16 word at the place of a binary32 word's exponent and fraction. -/
def mag (w : BitVec 32) : BitVec 32 := IntOp.shli ArithUnit.vector (IntOp.andi w 32767#32) 13#32

/-- The bits of the binary32 word of a normal binary16 magnitude: the exponent is rebiased. -/
def rebias (w : BitVec 32) : BitVec 32 :=
  IntOp.addi (mag w) (Scalar.select (IntOp.cmpi CmpIPredicate.sge (mag w) 260046848#32) 1879048192#32 939524096#32)

/-- The magnitude a binary16 word denotes, through a binary32 word. -/
def magRead (w : BitVec 32) : EReal :=
  Scalar.select (IntOp.cmpi CmpIPredicate.slt (mag w) 8388608#32)
    ((Ideal.ofBits FTy.f32 (IntOp.ori (mag w) 947912704#32) : EReal) - Ideal.ofBits FTy.f32 947912704#32)
    (Ideal.ofBits FTy.f32 (rebias w))

/-- The number a binary16 word denotes, through a binary32 word (`w` is the word widened). -/
def halfRead (w : BitVec 32) : EReal :=
  Scalar.select (IntOp.cmpi CmpIPredicate.sgt w 32767#32) (0 - magRead w) (magRead w)

/-! ## The fields, as numbers -/

section Words
variable {n : Nat} (hn : n < 65536)
include hn

theorem toNat_word : (BitVec.ofNat 32 n).toNat = n := by
  rw [BitVec.toNat_ofNat]; exact Nat.mod_eq_of_lt (by omega)

/-- A right shift of a word of 16 bits divides. -/
theorem toNat_shr (k : Nat) (hk : k < 32) :
    (IntOp.shrsi ArithUnit.host (BitVec.ofNat 32 n) (BitVec.ofNat 32 k)).toNat = n / 2 ^ k := by
  have hk' : (BitVec.ofNat 32 k).toNat = k := by rw [BitVec.toNat_ofNat]; exact Nat.mod_eq_of_lt (by omega)
  have hm : (BitVec.ofNat 32 n).msb = false := by
    rw [BitVec.msb_eq_false_iff_two_mul_lt, toNat_word hn]; omega
  simp only [IntOp.shrsi, hk', if_pos hk, BitVec.sshiftRight', BitVec.sshiftRight_eq_of_msb_false hm, BitVec.toNat_ushiftRight,
    toNat_word hn, Nat.shiftRight_eq_div_pow]

/-- The exponent field. -/
theorem toNat_expo : (IntOp.andi (IntOp.shrsi ArithUnit.host (BitVec.ofNat 32 n) 10#32) 31#32).toNat = n / 1024 % 32 := by
  have h := toNat_shr hn 10 (by decide)
  simp only [IntOp.andi, BitVec.toNat_and] at *
  rw [h]
  exact Nat.and_two_pow_sub_one_eq_mod _ 5

/-- The fraction field. -/
theorem toNat_frac : (IntOp.andi (BitVec.ofNat 32 n) 1023#32).toNat = n % 1024 := by
  simp only [IntOp.andi, BitVec.toNat_and, toNat_word hn]
  exact Nat.and_two_pow_sub_one_eq_mod _ 10

/-- The magnitude bits, moved. -/
theorem toNat_mag : (mag (BitVec.ofNat 32 n)).toNat = n % 32768 * 8192 := by
  have h : (IntOp.andi (BitVec.ofNat 32 n) 32767#32).toNat = n % 32768 := by
    simp only [IntOp.andi, BitVec.toNat_and, toNat_word hn]
    exact Nat.and_two_pow_sub_one_eq_mod _ 15
  have h13 : (13#32).toNat = 13 := rfl
  simp only [mag, IntOp.shli, h13, if_pos (by decide : 13 < 32), BitVec.shiftLeft_eq', BitVec.toNat_shiftLeft, h, Nat.shiftLeft_eq]
  omega

end Words

/-- A signed comparison of words below `2 ^ 31` compares the numbers. -/
theorem slt_small (a b : BitVec 32) (ha : a.toNat < 2 ^ 31) (hb : b.toNat < 2 ^ 31) : a.slt b = decide (a.toNat < b.toNat) := by
  rw [BitVec.slt_eq_decide, BitVec.toInt_eq_toNat_of_lt (by omega), BitVec.toInt_eq_toNat_of_lt (by omega)]
  simp

/-- The value of a binary32 word whose sign is 0 and whose exponent field is neither 0 nor 255. -/
theorem ofBits_normal (b : BitVec 32) (ex fr : Nat) (hb : b.toNat = ex * 8388608 + fr) (hf : fr < 8388608) (h0 : 0 < ex) (h1 : ex < 255) :
    Ideal.ofBits FTy.f32 b = (((8388608 + fr : ℝ) * (2 : ℝ) ^ ((ex : ℤ) - 150) : ℝ) : EReal) := by
  have e1 : b.extractLsb' 31 1 = 0#1 := by
    apply BitVec.eq_of_toNat_eq
    rw [BitVec.extractLsb'_toNat, hb, Nat.shiftRight_eq_div_pow]
    show _ = 0
    omega
  have e2 : (b.extractLsb' 23 8).toNat = ex := by
    rw [BitVec.extractLsb'_toNat, hb, Nat.shiftRight_eq_div_pow]; omega
  have e3 : (b.extractLsb' 0 23).toNat = fr := by
    rw [BitVec.extractLsb'_toNat, hb, Nat.shiftRight_eq_div_pow]; omega
  simp only [Ideal.ofBits, Ideal.ieee, e1, e2, e3]
  rw [if_neg (by norm_num; omega), if_neg (by omega)]
  have h150 : (ex : ℤ) - 150 = (ex : ℤ) - (2 ^ (8 - 1) - 1) - ((23 : ℕ) : ℤ) := by norm_num; ring
  rw [h150]
  norm_num

/-- The value of a binary32 word whose sign is 0 and whose exponent field is 255. -/
theorem ofBits_special (b : BitVec 32) (fr : Nat) (hb : b.toNat = 255 * 8388608 + fr) (hf : fr < 8388608) :
    Ideal.ofBits FTy.f32 b = if fr = 0 then ⊤ else ⊥ := by
  have e1 : b.extractLsb' 31 1 = 0#1 := by
    apply BitVec.eq_of_toNat_eq
    rw [BitVec.extractLsb'_toNat, hb, Nat.shiftRight_eq_div_pow]
    show _ = 0
    omega
  have e2 : (b.extractLsb' 23 8).toNat = 255 := by
    rw [BitVec.extractLsb'_toNat, hb, Nat.shiftRight_eq_div_pow]; omega
  have e3 : (b.extractLsb' 0 23).toNat = fr := by
    rw [BitVec.extractLsb'_toNat, hb, Nat.shiftRight_eq_div_pow]; omega
  simp only [Ideal.ofBits, Ideal.ieee, e1, e2, e3]
  norm_num

theorem sel_one {α : Type} (a b : α) : Scalar.select 1#1 a b = a := rfl
theorem sel_zero {α : Type} (a b : α) : Scalar.select 0#1 a b = b := rfl

section Cases
variable {n : Nat} (hn : n < 65536)
include hn

/-- The kernel's magnitude of a subnormal word. -/
theorem magRead_sub (he : n / 1024 % 32 = 0) :
    magRead (BitVec.ofNat 32 n) = (((n % 1024 : ℕ) * (2 : ℝ) ^ (-24 : ℤ) : ℝ) : EReal) := by
  have hm := toNat_mag hn
  have c1 : (8388608#32).toNat = 8388608 := by norm_num
  have h1 : IntOp.cmpi CmpIPredicate.slt (mag (BitVec.ofNat 32 n)) 8388608#32 = 1#1 := by
    simp only [IntOp.cmpi, slt_small _ _ (by rw [hm]; omega) (by rw [c1]; omega), hm, c1]
    rw [decide_eq_true (by omega)]; rfl
  have h2 : (IntOp.ori (mag (BitVec.ofNat 32 n)) 947912704#32).toNat = 113 * 8388608 + n % 1024 * 8192 := by
    have c3 : (947912704#32).toNat = 2 ^ 23 * 113 := by norm_num
    simp only [IntOp.ori, BitVec.toNat_or, hm, c3]
    rw [Nat.or_comm, ← Nat.two_pow_add_eq_or_of_lt (by omega)]
    omega
  have c4 : (947912704#32).toNat = 113 * 8388608 + 0 := by norm_num
  unfold magRead
  rw [h1, sel_one, ofBits_normal _ 113 (n % 1024 * 8192) h2 (by omega) (by omega) (by omega),
    ofBits_normal 947912704#32 113 0 c4 (by omega) (by omega) (by omega), ← EReal.coe_sub]
  refine congrArg (fun r : ℝ => (r : EReal)) ?_
  push_cast
  norm_num
  ring

/-- A word with a nonzero exponent field is read through its rebiased bits. -/
theorem magRead_normal (he : n / 1024 % 32 ≠ 0) :
    magRead (BitVec.ofNat 32 n) = Ideal.ofBits FTy.f32 (rebias (BitVec.ofNat 32 n)) := by
  have hm := toNat_mag hn
  have c1 : (8388608#32).toNat = 8388608 := by norm_num
  have h1 : IntOp.cmpi CmpIPredicate.slt (mag (BitVec.ofNat 32 n)) 8388608#32 = 0#1 := by
    simp only [IntOp.cmpi, slt_small _ _ (by rw [hm]; omega) (by rw [c1]; omega), hm, c1]
    rw [decide_eq_false (by omega)]; rfl
  unfold magRead
  rw [h1, sel_zero]

/-- Whether the exponent field is all ones, as the kernel tests it. -/
theorem sge_mag : IntOp.cmpi CmpIPredicate.sge (mag (BitVec.ofNat 32 n)) 260046848#32 = BitVec.ofBool (decide (n / 1024 % 32 = 31)) := by
  have hm := toNat_mag hn
  have c2 : (260046848#32).toNat = 260046848 := by norm_num
  simp only [IntOp.cmpi]
  rw [BitVec.sle_eq_not_slt, slt_small _ _ (by rw [hm]; omega) (by rw [c2]; omega), hm, c2]
  congr 1
  rw [← decide_not]
  exact decide_eq_decide.mpr (by omega)

/-- The kernel's magnitude of an infinity or a NaN. -/
theorem magRead_special (he : n / 1024 % 32 = 31) : magRead (BitVec.ofNat 32 n) = if n % 1024 = 0 then ⊤ else ⊥ := by
  have hm := toNat_mag hn
  have h3 : (rebias (BitVec.ofNat 32 n)).toNat = 255 * 8388608 + n % 1024 * 8192 := by
    unfold rebias
    rw [sge_mag hn, decide_eq_true he]
    show (IntOp.addi _ (Scalar.select 1#1 _ _)).toNat = _
    have c4 : (1879048192#32).toNat = 1879048192 := by norm_num
    rw [sel_one, IntOp.addi, BitVec.toNat_add, hm, c4]
    omega
  rw [magRead_normal hn (by omega), ofBits_special _ _ h3 (by omega)]
  exact if_congr (by omega) rfl rfl

/-- The kernel's magnitude of a normal word. -/
theorem magRead_finite (he : n / 1024 % 32 ≠ 0) (he' : n / 1024 % 32 ≠ 31) :
    magRead (BitVec.ofNat 32 n) = (((1024 + (n % 1024 : ℕ)) * (2 : ℝ) ^ (((n / 1024 % 32 : ℕ) : ℤ) - 25) : ℝ) : EReal) := by
  have hm := toNat_mag hn
  have h3 : (rebias (BitVec.ofNat 32 n)).toNat = (n / 1024 % 32 + 112) * 8388608 + n % 1024 * 8192 := by
    unfold rebias
    rw [sge_mag hn, decide_eq_false he']
    show (IntOp.addi _ (Scalar.select 0#1 _ _)).toNat = _
    have c4 : (939524096#32).toNat = 939524096 := by norm_num
    rw [sel_zero, IntOp.addi, BitVec.toNat_add, hm, c4]
    omega
  rw [magRead_normal hn he, ofBits_normal _ _ _ h3 (by omega) (by omega) (by omega)]
  refine congrArg (fun r : ℝ => (r : EReal)) ?_
  generalize n / 1024 % 32 = e
  generalize n % 1024 = f
  have h : (2 : ℝ) ^ ((e : ℤ) - 25) = (2 : ℝ) ^ (((e + 112 : ℕ) : ℤ) - 150) * 8192 := by
    rw [show (8192 : ℝ) = (2 : ℝ) ^ (13 : ℤ) by norm_num, ← zpow_add₀ (by norm_num)]
    exact congrArg (fun z : ℤ => (2 : ℝ) ^ z) (by push_cast; ring)
  rw [h]
  push_cast
  ring

end Cases

/-- An equality test of a word against a small number. -/
theorem cmpi_eq (a : BitVec 32) (k : Nat) (hk : k < 2 ^ 32) :
    IntOp.cmpi CmpIPredicate.eq a (BitVec.ofNat 32 k) = BitVec.ofBool (decide (a.toNat = k)) := by
  have hk' : (BitVec.ofNat 32 k).toNat = k := by rw [BitVec.toNat_ofNat]; exact Nat.mod_eq_of_lt hk
  simp only [IntOp.cmpi]
  refine congrArg BitVec.ofBool ?_
  rw [beq_eq_decide]
  exact decide_eq_decide.mpr ⟨fun h => by rw [h, hk'], fun h => BitVec.eq_of_toNat_eq (by rw [hk', h])⟩

/-- A word below `2 ^ 31` converts to its number. -/
theorem sitofp_small (a : BitVec 32) (ha : a.toNat < 2 ^ 31) :
    (FloatOps.sitofp (F := Ideal) FTy.f32 a : EReal) = ((a.toNat : ℝ) : EReal) := by
  show (((a.toInt : ℤ) : ℝ) : EReal) = _
  rw [BitVec.toInt_eq_toNat_of_lt (by omega)]
  simp

/-- Four constants of the reference. -/
theorem neg_one_f32 : Ideal.ofBits FTy.f32 3212836864#32 = (-1 : EReal) := IdealRules.sign_bit.ideal_negOnePat .f32

theorem two_f32 : Ideal.ofBits FTy.f32 1073741824#32 = (((2 : ℝ)) : EReal) := by
  rw [ofBits_normal _ 128 0 (by norm_num) (by omega) (by omega) (by omega)]; norm_num
theorem base_f32 : Ideal.ofBits FTy.f32 1149239296#32 = (((1024 : ℝ)) : EReal) := by
  rw [ofBits_normal _ 137 0 (by norm_num) (by omega) (by omega) (by omega)]; norm_num
theorem tiny_f32 : Ideal.ofBits FTy.f32 864026624#32 = (((2 : ℝ) ^ (-24 : ℤ) : ℝ) : EReal) := by
  rw [ofBits_normal _ 103 0 (by norm_num) (by omega) (by omega) (by omega)]; norm_num
theorem inf_f32 : Ideal.ofBits FTy.f32 2139095040#32 = ⊤ := by
  rw [ofBits_special _ 0 (by norm_num) (by omega)]; rfl
theorem nan_f32 : Ideal.ofBits FTy.f32 2143289344#32 = ⊥ := by
  rw [ofBits_special _ 4194304 (by norm_num) (by omega)]; rfl

/-- The exponent the reference raises 2 to. -/
theorem sitofp_sub (a : BitVec 32) (ha : a.toNat < 32) :
    (FloatOps.sitofp (F := Ideal) FTy.f32 (IntOp.subi a 25#32) : EReal) = ((((a.toNat : ℤ) - 25 : ℤ) : ℝ) : EReal) := by
  show (((IntOp.subi a 25#32).toInt : ℝ) : EReal) = _
  have h : (IntOp.subi a 25#32).toInt = (a.toNat : ℤ) - 25 := by
    have h25 : (25#32).toInt = 25 := by decide
    rw [IntOp.subi, BitVec.toInt_sub, h25, BitVec.toInt_eq_toNat_of_lt (by omega), Int.bmod_def]
    omega
  rw [h]

/-- On every word the two readings agree. -/
theorem halfRead_eq_value (n : Nat) (hn : n < 65536) : halfRead (BitVec.ofNat 32 n) = halfValue (BitVec.ofNat 32 n) := by
  have c1 : (32767#32).toNat = 32767 := by norm_num
  have hsg : IntOp.cmpi CmpIPredicate.sgt (BitVec.ofNat 32 n) 32767#32 = BitVec.ofBool (decide (n / 2 ^ 15 = 1)) := by
    simp only [IntOp.cmpi]
    rw [slt_small _ _ (by rw [c1]; omega) (by rw [toNat_word hn]; omega), c1, toNat_word hn]
    exact congrArg BitVec.ofBool (decide_eq_decide.mpr (by omega))
  have hmag : magRead (BitVec.ofNat 32 n) =
      Scalar.select (IntOp.cmpi CmpIPredicate.eq (IntOp.andi (IntOp.shrsi ArithUnit.host (BitVec.ofNat 32 n) 10#32) 31#32) 31#32)
      (if FloatOps.sitofp (F := Ideal) FTy.f32 (IntOp.andi (BitVec.ofNat 32 n) 1023#32) = (0 : EReal) then Ideal.ofBits FTy.f32 2139095040#32
        else Ideal.ofBits FTy.f32 2143289344#32)
      (Scalar.select (IntOp.cmpi CmpIPredicate.eq (IntOp.andi (IntOp.shrsi ArithUnit.host (BitVec.ofNat 32 n) 10#32) 31#32) 0#32)
        ((FloatOps.sitofp (F := Ideal) FTy.f32 (IntOp.andi (BitVec.ofNat 32 n) 1023#32) : EReal) * Ideal.ofBits FTy.f32 864026624#32)
        (((Ideal.ofBits FTy.f32 1149239296#32 : EReal) + FloatOps.sitofp (F := Ideal) FTy.f32 (IntOp.andi (BitVec.ofNat 32 n) 1023#32)) *
          Ideal.pow (Ideal.ofBits FTy.f32 1073741824#32)
            (FloatOps.sitofp (F := Ideal) FTy.f32
              (IntOp.subi (IntOp.andi (IntOp.shrsi ArithUnit.host (BitVec.ofNat 32 n) 10#32) 31#32) 25#32)))) := by
    have he := toNat_expo hn
    have hf := toNat_frac hn
    rw [cmpi_eq _ 31 (by norm_num), cmpi_eq _ 0 (by norm_num), he, sitofp_small _ (by rw [hf]; omega), hf, inf_f32, nan_f32]
    by_cases h31 : n / 1024 % 32 = 31
    · rw [decide_eq_true h31]
      show _ = Scalar.select 1#1 _ _
      rw [sel_one, magRead_special hn h31]
      refine if_congr ?_ rfl rfl
      rw [← EReal.coe_zero, EReal.coe_eq_coe_iff, Nat.cast_eq_zero]
    · rw [decide_eq_false h31]
      show _ = Scalar.select 0#1 _ _
      rw [sel_zero]
      by_cases h0 : n / 1024 % 32 = 0
      · rw [decide_eq_true h0]
        show _ = Scalar.select 1#1 _ _
        rw [sel_one, magRead_sub hn h0, tiny_f32, ← EReal.coe_mul]
      · rw [decide_eq_false h0]
        show _ = Scalar.select 0#1 _ _
        rw [sel_zero, magRead_finite hn h0 h31, sitofp_sub _ (by rw [he]; omega), he, base_f32, two_f32, ← EReal.coe_add]
        show _ = ((_ : ℝ) : EReal) * ((Real.rpow _ _ : ℝ) : EReal)
        rw [← EReal.coe_mul]
        refine congrArg (fun r : ℝ => (r : EReal)) (congrArg _ ?_)
        exact (Real.rpow_intCast _ _).symm
  unfold halfRead halfValue
  rw [hsg, cmpi_eq _ 1 (by norm_num), toNat_shr hn 15 (by decide), ← hmag, neg_one_f32]
  by_cases hs : n / 2 ^ 15 = 1
  · rw [decide_eq_true hs]
    show Scalar.select 1#1 _ _ = Scalar.select 1#1 _ _ * _
    rw [sel_one, sel_one, zero_sub, neg_one_mul]
  · rw [decide_eq_false hs]
    show Scalar.select 0#1 _ _ = Scalar.select 0#1 _ _ * _
    rw [sel_zero, sel_zero, one_mul]

/-- On every word of 16 bits the two readings agree. -/
theorem halfRead_eq (h : BitVec 16) : halfRead (h.setWidth 32) = halfValue (h.setWidth 32) := by
  have e : h.setWidth 32 = BitVec.ofNat 32 h.toNat := by
    apply BitVec.eq_of_toNat_eq
    rw [BitVec.toNat_setWidth, BitVec.toNat_ofNat]
  rw [e]
  exact halfRead_eq_value _ h.isLt

end Cert.Half
-- ==== Proof.Spec.lean ====
module

public import proofs.«01_k».proof.Proof.Half

/-!
# The product both programs compute, at one element

One element of the result is the inner product of a row of activations with a row of 4608 weights. The row is 18
super-blocks of 4 pairs of 2 groups of 32 weights. A weight is a four-bit code times its group's scale less its group's
offset; scale and offset are six-bit codes, packed 8 + 8 in 12 bytes, times the super-block's two half-precision numbers.
-/

@[expose] public section
noncomputable section
namespace Cert.Spec
open Idealize.ShloMosaic Cert.Half

/-- The scale code of half `p` of pair `g`, from the 12 bytes of its super-block. -/
def scCode (b : Fin 12 → BitVec 8) (g : Fin 4) (p : Fin 2) : BitVec 32 :=
  if h : g.val < 2 then IntOp.andi ((b ⟨2 * g.val + p.val, by omega⟩).setWidth 32) 63#32
  else IntOp.ori (IntOp.andi ((b ⟨4 + 2 * g.val + p.val, by omega⟩).setWidth 32) 15#32)
    (IntOp.shli ArithUnit.host (IntOp.shrsi ArithUnit.host ((b ⟨2 * g.val + p.val - 4, by omega⟩).setWidth 32) 6#32) 4#32)

/-- The offset code of half `p` of pair `g`, from the 12 bytes of its super-block. -/
def mnCode (b : Fin 12 → BitVec 8) (g : Fin 4) (p : Fin 2) : BitVec 32 :=
  if h : g.val < 2 then IntOp.andi ((b ⟨4 + 2 * g.val + p.val, by omega⟩).setWidth 32) 63#32
  else IntOp.ori (IntOp.shrsi ArithUnit.host ((b ⟨4 + 2 * g.val + p.val, by omega⟩).setWidth 32) 4#32)
    (IntOp.shli ArithUnit.host (IntOp.shrsi ArithUnit.host ((b ⟨2 * g.val + p.val, by omega⟩).setWidth 32) 6#32) 4#32)

/-- The weight code of half `p` of a pair: the low or the high four bits of the byte. -/
def nibble (p : Fin 2) (q : BitVec 8) : BitVec 32 :=
  if p.val = 0 then IntOp.andi (q.setWidth 32) 15#32 else IntOp.shrsi ArithUnit.host (q.setWidth 32) 4#32

/-- The number of an integer word. -/
def num (w : BitVec 32) : EReal := FloatOps.sitofp (F := Ideal) FTy.f32 w

/-- A group's scale. -/
def scale (d : BitVec 16) (b : Fin 12 → BitVec 8) (g : Fin 4) (p : Fin 2) : EReal := halfValue (d.setWidth 32) * num (scCode b g p)
/-- A group's offset. -/
def offset (dm : BitVec 16) (b : Fin 12 → BitVec 8) (g : Fin 4) (p : Fin 2) : EReal := halfValue (dm.setWidth 32) * num (mnCode b g p)

/-- One term of the inner product: super-block `k`, pair `g`, half `p`, position `j`. -/
def term (x : Fin 4608 → EReal) (q : Fin 2304 → BitVec 8) (d dm : Fin 18 → BitVec 16) (b : Fin 18 → Fin 12 → BitVec 8)
    (k : Fin 18) (g : Fin 4) (p : Fin 2) (j : Fin 32) : EReal :=
  x ⟨256 * k.val + 64 * g.val + 32 * p.val + j.val, by omega⟩ *
    (num (nibble p (q ⟨128 * k.val + 32 * g.val + j.val, by omega⟩)) * scale (d k) (b k) g p - offset (dm k) (b k) g p)

/-- One element of the result. -/
def element (x : Fin 4608 → EReal) (q : Fin 2304 → BitVec 8) (d dm : Fin 18 → BitVec 16) (b : Fin 18 → Fin 12 → BitVec 8) : EReal :=
  ∑ k : Fin 18, ∑ g : Fin 4, ∑ p : Fin 2, ∑ j : Fin 32, term x q d dm b k g p j

/-! ## Two orders of the same sum -/

/-- The sums over the pairs, first all low halves and then all high halves. -/
theorem sum_halves (T : Fin 18 → Fin 4 → Fin 2 → Fin 32 → EReal) :
    ∑ k, ∑ g, ∑ p, ∑ j, T k g p j =
      (∑ j : Fin 32, ∑ P : Fin 72, T ⟨P.val / 4, by omega⟩ ⟨P.val % 4, by omega⟩ 0 j) +
      ∑ j : Fin 32, ∑ P : Fin 72, T ⟨P.val / 4, by omega⟩ ⟨P.val % 4, by omega⟩ 1 j := by
  have h : ∀ F : Fin 18 → Fin 4 → EReal, ∑ P : Fin 72, F ⟨P.val / 4, by omega⟩ ⟨P.val % 4, by omega⟩ = ∑ k, ∑ g, F k g := by
    intro F
    rw [Fin.sum_univ_tiles 18 4 rfl]
    refine Finset.sum_congr rfl fun k _ => Finset.sum_congr rfl fun g _ => ?_
    congr 1 <;> exact Fin.ext (by show _ = _; simp only; omega)
  have hp : ∀ p, ∑ j : Fin 32, ∑ P : Fin 72, T ⟨P.val / 4, by omega⟩ ⟨P.val % 4, by omega⟩ p j = ∑ k, ∑ g, ∑ j, T k g p j := by
    intro p
    rw [Finset.sum_congr rfl fun j _ => h fun k g => T k g p j, Finset.sum_comm]
    exact Finset.sum_congr rfl fun k _ => Finset.sum_comm
  rw [hp 0, hp 1, ← Finset.sum_add_distrib]
  refine Finset.sum_congr rfl fun k _ => ?_
  rw [← Finset.sum_add_distrib]
  refine Finset.sum_congr rfl fun g _ => ?_
  rw [Fin.sum_univ_two]

/-- The sum over the 256 rows of a super-block, whose rows alternate between the halves of a pair. -/
theorem sum_rows (S : Fin 4 → Fin 2 → Fin 32 → EReal) (R : Fin 256 → EReal)
    (h : ∀ g p j, R ⟨64 * g.val + 2 * j.val + p.val, by omega⟩ = S g p j) :
    ∑ r, R r = ∑ g, ∑ p, ∑ j, S g p j := by
  rw [Fin.sum_univ_tiles 4 64 rfl]
  refine Finset.sum_congr rfl fun g _ => ?_
  rw [Fin.sum_univ_tiles 32 2 rfl, Finset.sum_comm]
  refine Finset.sum_congr rfl fun p _ => Finset.sum_congr rfl fun j _ => ?_
  rw [← h g p j]
  exact congrArg R (Fin.ext (by simp only; omega))

/-! ## The codes as the kernel reads them -/

/-- Shifting two bits less and masking keeps the same two bits. -/
theorem top_bits : ∀ c : BitVec 8, IntOp.andi (IntOp.shrsi ArithUnit.vector (c.setWidth 32) 2#32) 48#32
    = IntOp.shli ArithUnit.host (IntOp.shrsi ArithUnit.host (c.setWidth 32) 6#32) 4#32 := by
  decide +kernel
/-- A shift of a byte on the vector unit is the host's. -/
theorem shr4 : ∀ c : BitVec 8, IntOp.shrsi ArithUnit.vector (c.setWidth 32) 4#32 = IntOp.shrsi ArithUnit.host (c.setWidth 32) 4#32 := by
  decide +kernel

end Cert.Spec
-- ==== Proof.Units.lean ====
module

public import proofs.«01_k».proof.Proof.Pieces
public import proofs.«01_k».proof.Proof.Spec

/-!
# The kernel's repeated units at an index

What one decoded slab of scales, one lane group of permuted activations, one rebuilt block of weights and one tile's
accumulator hold at an index, over the extended reals.
-/

@[expose] public section
set_option maxRecDepth 16384
noncomputable section
namespace Cert.KernelIdeal.Value
open Cert.Spec Cert.KernelIdeal Cert.KernelIdeal.Gen Idealize.ShloMosaic Idealize.ShloMosaic.TcCoe Idealize.SL.Sem

/-- The stored row that holds the scales of pair `g`; its offsets are two rows below. -/
def scaleRow (g : Fin 4) : Fin 6 := ⟨if g.val < 2 then g.val else g.val + 2, by split <;> omega⟩

/-- The half-precision values of a slab. -/
theorem half_at (x : Vec Ideal S18x128 .i16) (r : Fin 18) (l : Fin 128) :
    k0_pay57 (F := Ideal) x (ix2 r l) = Half.halfValue ((x (ix2 r l)).setWidth 32) := by
  rw [← Half.halfRead_eq]
  pointwise [k0_pay57]
  rfl

/-- A decoded slab at the row of a pair's scales. -/
theorem decode_scale (k : Fin 18) (d dm : FVec Ideal S18x128 .f32) (b : Vec Ideal S1x12x128 .i8) (g : Fin 4) (p : Fin 2) (l : Fin 128) :
    decodeTile (F := Ideal) k d dm b (ix4 0 ⟨(scaleRow g).val, by omega⟩ p l) =
      d (ix2 k l) * num (scCode (fun i => b (ix3 0 i l)) g p) := by
  fin_cases g <;> fin_cases p
  all_goals
    pointwise [decodeTile, k0_pay56, scaleRow, top_bits, shr4]
    rw [mul_comm]
    rfl

/-- A decoded slab at the row of a pair's offsets. -/
theorem decode_offset (k : Fin 18) (d dm : FVec Ideal S18x128 .f32) (b : Vec Ideal S1x12x128 .i8) (g : Fin 4) (p : Fin 2) (l : Fin 128) :
    decodeTile (F := Ideal) k d dm b (ix4 0 ⟨(scaleRow g).val + 2, by omega⟩ p l) =
      dm (ix2 k l) * num (mnCode (fun i => b (ix3 0 i l)) g p) := by
  fin_cases g <;> fin_cases p
  all_goals
    pointwise [decodeTile, k0_pay56, scaleRow, top_bits, shr4]
    rw [mul_comm]
    rfl

/-- The lane a lane of the permuted activations comes from. -/
def srcLane (l : Fin 128) : Fin 128 := ⟨64 * (l.val / 64) + 32 * (l.val % 2) + l.val % 64 / 2, by omega⟩

/-- The kernel's lane words are those lanes. -/
theorem srcLane_words : ∀ l : Fin 128,
    (Scalar.select
      (IntOp.cmpi CmpIPredicate.slt
        (IntOp.ori
          (IntOp.ori (IntOp.andi (BitVec.ofNat 32 l.val) 64#32)
            (IntOp.shli ArithUnit.vector (IntOp.andi (BitVec.ofNat 32 l.val) 1#32) 5#32))
          (IntOp.shrsi ArithUnit.vector (IntOp.andi (BitVec.ofNat 32 l.val) 63#32) 1#32))
        0#32)
      (IntOp.addi
        (IntOp.ori
          (IntOp.ori (IntOp.andi (BitVec.ofNat 32 l.val) 64#32)
            (IntOp.shli ArithUnit.vector (IntOp.andi (BitVec.ofNat 32 l.val) 1#32) 5#32))
          (IntOp.shrsi ArithUnit.vector (IntOp.andi (BitVec.ofNat 32 l.val) 63#32) 1#32))
        128#32)
      (IntOp.ori
        (IntOp.ori (IntOp.andi (BitVec.ofNat 32 l.val) 64#32)
          (IntOp.shli ArithUnit.vector (IntOp.andi (BitVec.ofNat 32 l.val) 1#32) 5#32))
        (IntOp.shrsi ArithUnit.vector (IntOp.andi (BitVec.ofNat 32 l.val) 63#32) 1#32))).toNat % 128 = (srcLane l).val := by
  decide +kernel

/-- A lane group of the permuted activations. -/
theorem perm_at (x : Vec Ideal S192x128 .bf16) (r : Fin 192) (l : Fin 128) :
    permTile (F := Ideal) x (ix2 r l) = x (ix2 r (srcLane l)) := by
  pointwise [permTile, k0_pay37, k0_pay2]
  exact congrArg (fun i => x (ix2 r i)) (Fin.ext (srcLane_words l))

/-- The codes of a block. -/
theorem code_at (cd : Vec Ideal S256x128 .i8) (g : Fin 4) (p : Fin 2) (j : Fin 32) (l : Fin 256) :
    k0_pay488 (F := Ideal) cd (ix2 ⟨64 * g.val + 2 * j.val + p.val, by omega⟩ l) =
      num (nibble p (cd (ix2 l ⟨32 * g.val + j.val, by omega⟩))) := by
  pointwise [k0_pay488]
  unfold num nibble
  refine congrArg (FloatOps.sitofp (F := Ideal) FTy.f32) ?_
  have e : (⟨(64 * g.val + 2 * j.val + p.val) / 2, by omega⟩ : Fin 128) = ⟨32 * g.val + j.val, by omega⟩ := Fin.ext (by simp only; omega)
  by_cases hp : p.val = 0
  · rw [dif_pos (by omega), if_pos hp, e]
  · rw [dif_neg (by omega), if_neg hp, e, shr4]

/-- A word of a pair of rows, by its number, is row `p` of pair `e`. -/
theorem pick_eq (raw : Vec Ideal S1x8x2x256 .bf16) (l : Fin 256) (n : Nat) (e : Fin 8) (p : Fin 2)
    (h : n = 2 * e.val + p.val) (h1 h2 : n / 2 < 8) :
    (if n % 2 = 0 then raw (ix4 0 ⟨n / 2, h1⟩ 0 l) else raw (ix4 0 ⟨n / 2, h2⟩ 1 l)) =
      raw (ix4 0 e p l) := by
  have e1 : (⟨n / 2, h1⟩ : Fin 8) = e := Fin.ext (by change n / 2 = _; omega)
  obtain hp | hp : p = 0 ∨ p = 1 := by
    rcases (show p.val = 0 ∨ p.val = 1 by omega) with h | h
    · exact Or.inl (Fin.ext h)
    · exact Or.inr (Fin.ext h)
  · subst hp; rw [if_pos (by change n = 2 * e.val + 0 at h; omega), e1]
  · subst hp; rw [if_neg (by change n = 2 * e.val + 1 at h; omega), e1]

/-- The weights of a block, by the four pairs its rows are concatenated from. -/
theorem weight_ladder (q : FVec Ideal S256x256 .bf16) (raw : Vec Ideal S1x8x2x256 .bf16) (R l : Fin 256) :
    k0_pay489 (F := Ideal) q raw (ix2 R l) =
    if h : R.val < 64 then ((q (ix2 R l) : EReal) * (if R.val % 2 % 2 = 0 then raw (ix4 0 ⟨R.val % 2 / 2, by omega⟩ 0 l) else raw (ix4 0 ⟨R.val % 2 / 2, by omega⟩ 1 l))
        - (if (4 + R.val % 2) % 2 = 0 then raw (ix4 0 ⟨(4 + R.val % 2) / 2, by omega⟩ 0 l) else raw (ix4 0 ⟨(4 + R.val % 2) / 2, by omega⟩ 1 l)))
    else if h : R.val - 64 < 64 then ((q (ix2 ⟨64 + (R.val - 64), by omega⟩ l) : EReal) * (if (2 + (R.val - 64) % 2) % 2 = 0 then raw (ix4 0 ⟨(2 + (R.val - 64) % 2) / 2, by omega⟩ 0 l) else raw (ix4 0 ⟨(2 + (R.val - 64) % 2) / 2, by omega⟩ 1 l))
        - (if (6 + (R.val - 64) % 2) % 2 = 0 then raw (ix4 0 ⟨(6 + (R.val - 64) % 2) / 2, by omega⟩ 0 l) else raw (ix4 0 ⟨(6 + (R.val - 64) % 2) / 2, by omega⟩ 1 l)))
    else if h : R.val - 64 - 64 < 64 then ((q (ix2 ⟨128 + (R.val - 64 - 64), by omega⟩ l) : EReal) * (if (8 + (R.val - 64 - 64) % 2) % 2 = 0 then raw (ix4 0 ⟨(8 + (R.val - 64 - 64) % 2) / 2, by omega⟩ 0 l) else raw (ix4 0 ⟨(8 + (R.val - 64 - 64) % 2) / 2, by omega⟩ 1 l))
        - (if (12 + (R.val - 64 - 64) % 2) % 2 = 0 then raw (ix4 0 ⟨(12 + (R.val - 64 - 64) % 2) / 2, by omega⟩ 0 l) else raw (ix4 0 ⟨(12 + (R.val - 64 - 64) % 2) / 2, by omega⟩ 1 l)))
    else ((q (ix2 ⟨192 + (R.val - 64 - 64 - 64), by omega⟩ l) : EReal) * (if (10 + (R.val - 64 - 64 - 64) % 2) % 2 = 0 then raw (ix4 0 ⟨(10 + (R.val - 64 - 64 - 64) % 2) / 2, by omega⟩ 0 l) else raw (ix4 0 ⟨(10 + (R.val - 64 - 64 - 64) % 2) / 2, by omega⟩ 1 l))
        - (if (14 + (R.val - 64 - 64 - 64) % 2) % 2 = 0 then raw (ix4 0 ⟨(14 + (R.val - 64 - 64 - 64) % 2) / 2, by omega⟩ 0 l) else raw (ix4 0 ⟨(14 + (R.val - 64 - 64 - 64) % 2) / 2, by omega⟩ 1 l))) := by
  pointwise [k0_pay489]

/-- The weights of a block at a row of pair `g`, half `p`. -/
theorem weight_row (q : FVec Ideal S256x256 .bf16) (raw : Vec Ideal S1x8x2x256 .bf16) (R l : Fin 256) (g : Fin 4) (p : Fin 2)
    (h0 : 64 * g.val ≤ R.val) (h1 : R.val < 64 * g.val + 64) (hp : R.val % 2 = p.val) :
    k0_pay489 (F := Ideal) q raw (ix2 R l) =
      (q (ix2 R l) : EReal) * raw (ix4 0 ⟨(scaleRow g).val, by omega⟩ p l) - raw (ix4 0 ⟨(scaleRow g).val + 2, by omega⟩ p l) := by
  have hR := R.isLt
  have hpc : p = 0 ∨ p = 1 := by omega
  have hgc : g.val = 0 ∨ g.val = 1 ∨ g.val = 2 ∨ g.val = 3 := by omega
  rw [weight_ladder]
  rcases hgc with hg | hg | hg | hg
  · have es : (scaleRow g).val = 0 := by rw [show g = 0 from Fin.ext hg]; rfl
    rw [dif_pos (by omega)]
    rw [pick_eq raw l _ ⟨(scaleRow g).val, by omega⟩ p (by simp only [es]; omega),
      pick_eq raw l _ ⟨(scaleRow g).val + 2, by omega⟩ p (by simp only [es]; omega)]
  · have es : (scaleRow g).val = 1 := by rw [show g = 1 from Fin.ext hg]; rfl
    have e : (⟨64 + (R.val - 64), by omega⟩ : Fin 256) = R := Fin.ext (by change 64 + (R.val - 64) = _; omega)
    rw [dif_neg (by omega), dif_pos (by omega), e]
    rw [pick_eq raw l _ ⟨(scaleRow g).val, by omega⟩ p (by simp only [es]; omega),
      pick_eq raw l _ ⟨(scaleRow g).val + 2, by omega⟩ p (by simp only [es]; omega)]
  · have es : (scaleRow g).val = 4 := by rw [show g = 2 from Fin.ext hg]; rfl
    have e : (⟨128 + (R.val - 64 - 64), by omega⟩ : Fin 256) = R := Fin.ext (by change 128 + (R.val - 64 - 64) = _; omega)
    rw [dif_neg (by omega), dif_neg (by omega), dif_pos (by omega), e]
    rw [pick_eq raw l _ ⟨(scaleRow g).val, by omega⟩ p (by simp only [es]; omega),
      pick_eq raw l _ ⟨(scaleRow g).val + 2, by omega⟩ p (by simp only [es]; omega)]
  · have es : (scaleRow g).val = 5 := by rw [show g = 3 from Fin.ext hg]; rfl
    have e : (⟨192 + (R.val - 64 - 64 - 64), by omega⟩ : Fin 256) = R := Fin.ext (by change 192 + (R.val - 64 - 64 - 64) = _; omega)
    rw [dif_neg (by omega), dif_neg (by omega), dif_neg (by omega), e]
    rw [pick_eq raw l _ ⟨(scaleRow g).val, by omega⟩ p (by simp only [es]; omega),
      pick_eq raw l _ ⟨(scaleRow g).val + 2, by omega⟩ p (by simp only [es]; omega)]

/-- The weights of a block. -/
theorem weight_at (q : FVec Ideal S256x256 .bf16) (raw : Vec Ideal S1x8x2x256 .bf16) (g : Fin 4) (p : Fin 2) (j : Fin 32) (l : Fin 256) :
    k0_pay489 (F := Ideal) q raw (ix2 ⟨64 * g.val + 2 * j.val + p.val, by omega⟩ l) =
      (q (ix2 ⟨64 * g.val + 2 * j.val + p.val, by omega⟩ l) : EReal) * raw (ix4 0 ⟨(scaleRow g).val, by omega⟩ p l)
        - raw (ix4 0 ⟨(scaleRow g).val + 2, by omega⟩ p l) :=
  weight_row q raw _ l g p (by simp only; omega) (by simp only; omega) (by simp only; omega)

/-- The accumulator after `n` steps is the sum of the steps' products. -/
theorem accTo_at (cd : Fin 18 → Vec Ideal S256x128 .i8) (raw : Fin 18 → Vec Ideal S1x8x2x256 .bf16) (xl : Fin 18 → Vec Ideal S192x256 .bf16)
    (r : Fin 192) (l : Fin 256) : ∀ (n : Nat) (h : n ≤ 18), accTo (F := Ideal) cd raw xl n h (ix2 r l) =
      ∑ k : Fin n, ∑ i : Fin 256, (xl ⟨k.val, by omega⟩ (ix2 r i) : EReal) *
        k0_pay489 (F := Ideal) (k0_pay488 (cd ⟨k.val, by omega⟩)) (raw ⟨k.val, by omega⟩) (ix2 i l)
  | 0, _ => by
      rw [accTo]
      pointwise
      rfl
  | n + 1, h => by
      rw [accTo]
      unfold step
      pointwise [k0_pay490]
      rw [accTo_at cd raw xl r l n (Nat.le_of_succ_le h)]
      exact (Fin.sum_univ_castSucc (n := n) fun k : Fin (n + 1) => ∑ i : Fin 256, (xl ⟨k.val, by omega⟩ (ix2 r i) : EReal) *
        k0_pay489 (F := Ideal) (k0_pay488 (cd ⟨k.val, by omega⟩)) (raw ⟨k.val, by omega⟩) (ix2 i l)).symm

end Cert.KernelIdeal.Value
-- ==== Proof.Block.lean ====
module

public import proofs.«01_k».proof.Proof.Units

/-!
What a grid point leaves in its block of the result, from the point's five inputs: the decoded scales are read back from
the buffer the point stored them in, and every element of the block is the specification's sum.
-/

@[expose] public section

noncomputable section

namespace Cert.KernelIdeal.Value

open Cert.KernelIdeal Cert.KernelIdeal.Gen Cert.Spec Cert.Half
open Idealize.ShloMosaic Idealize.ShloMosaic.TcCoe Idealize.SL.Sem

/-- The scale buffer at super-block `k` and column `n` holds what the store of that super-block and of the column's
slab left there. -/
theorem scales_at (d dm : Fin 4 → Vec Ideal S18x128 .i16) (b : Fin 4 → Fin 18 → Vec Ideal S1x12x128 .i8)
    (k : Fin 18) (e : Fin 8) (p : Fin 2) (n : Fin 512) :
    View.canon (Val := Elt Ideal) (s := S18x8x2x512) (e := .bf16) (scalePieces d dm b) (ix4 k e p n) =
      decodeTile k (k0_pay57 (d ⟨n.val / 128, by omega⟩)) (k0_pay57 (dm ⟨n.val / 128, by omega⟩))
        (b ⟨n.val / 128, by omega⟩ k) (ix4 0 e p ⟨n.val % 128, by omega⟩) := by
  refine View.canon_ofFn_unit_eq_of_forall _ _ _ _ _ _ ⟨⟨71 - (18 * (n.val / 128) + k.val), by omega⟩, fun a => ?_⟩ fun i x hx => ?_
  · match a with
    | ⟨0, _⟩ => change (71 - (71 - (18 * (n.val / 128) + k.val))) % 18 ≤ k.val ∧ k.val < (71 - (71 - (18 * (n.val / 128) + k.val))) % 18 + 1; omega
    | ⟨1, _⟩ => change 0 ≤ e.val ∧ e.val < 0 + 8; omega
    | ⟨2, _⟩ => change 0 ≤ p.val ∧ p.val < 0 + 2; omega
    | ⟨3, _⟩ => change 128 * ((71 - (71 - (18 * (n.val / 128) + k.val))) / 18) ≤ n.val ∧ n.val < 128 * ((71 - (71 - (18 * (n.val / 128) + k.val))) / 18) + 128; omega
  · have h0 : k.val = (kOf i).val + (x 0).val := hx 0
    have h1 : e.val = 0 + (x 1).val := hx 1
    have h2 : p.val = 0 + (x 2).val := hx 2
    have h3 : n.val = 128 * (jOf i).val + (x 3).val := hx 3
    have l0 : (x 0).val < 1 := (x 0).isLt
    have l3 : (x 3).val < 128 := (x 3).isLt
    have ek : kOf i = k := Fin.ext (by omega)
    have ej : jOf i = ⟨n.val / 128, by omega⟩ := Fin.ext (by change _ = n.val / 128; omega)
    have ex : x = ix4 0 e p ⟨n.val % 128, by omega⟩ := by
      funext a
      match a with
      | ⟨0, _⟩ => exact Fin.ext (by change (x 0).val = 0; omega)
      | ⟨1, _⟩ => exact Fin.ext (by change (x 1).val = e.val; omega)
      | ⟨2, _⟩ => exact Fin.ext (by change (x 2).val = p.val; omega)
      | ⟨3, _⟩ => exact Fin.ext (by change (x 3).val = n.val % 128; omega)
    rw [ek, ej]
    exact congrArg _ ex

/-- The block of the result at column `n` is the accumulator of the column's tile after all eighteen steps. -/
theorem tiles_at (cd : Fin 2 → Fin 18 → Vec Ideal S256x128 .i8) (raw : Fin 2 → Fin 18 → Vec Ideal S1x8x2x256 .bf16)
    (xl : Fin 18 → Vec Ideal S192x256 .bf16) (r : Fin 192) (n : Fin 512) :
    View.canon (Val := Elt Ideal) (s := S192x512) (e := .bf16) (tilePieces cd raw xl) (ix2 r n) =
      accTo (F := Ideal) (cd ⟨n.val / 256, by omega⟩) (raw ⟨n.val / 256, by omega⟩) xl 18 (Nat.le_refl 18) (ix2 r ⟨n.val % 256, by omega⟩) := by
  refine View.canon_ofFn_unit_eq_of_forall _ _ _ _ _ _ ⟨Fin.rev ⟨n.val / 256, by omega⟩, fun a => ?_⟩ fun i x hx => ?_
  · rw [Fin.rev_rev]
    match a with
    | ⟨0, _⟩ => change 0 ≤ r.val ∧ r.val < 0 + 192; omega
    | ⟨1, _⟩ => change 256 * (n.val / 256) ≤ n.val ∧ n.val < 256 * (n.val / 256) + 256; omega
  · have h0 : r.val = 0 + (x 0).val := hx 0
    have h1 : n.val = 256 * (Fin.rev i).val + (x 1).val := hx 1
    have l1 : (x 1).val < 256 := (x 1).isLt
    have ei : Fin.rev i = ⟨n.val / 256, by omega⟩ := Fin.ext (by change _ = n.val / 256; omega)
    have ex : x = ix2 r ⟨n.val % 256, by omega⟩ := by
      funext a
      match a with
      | ⟨0, _⟩ => exact Fin.ext (by change (x 0).val = r.val; omega)
      | ⟨1, _⟩ => exact Fin.ext (by change (x 1).val = n.val % 256; omega)
    change accTo (F := Ideal) (cd (Fin.rev i)) (raw (Fin.rev i)) xl 18 _ x = _
    rw [ei]
    exact congrArg _ ex

/-- The half-precision words a slab's load takes. -/
theorem ldHalf_at (a : Memref sig .tc .vmem S18x512 .i16) (ha : a.IsWhole) (x : Vec Ideal S18x512 .i16) (j : Fin 4) (k : Fin 18) (l : Fin 128) :
    ldHalf a ha x j (ix2 k l) = x (ix2 k ⟨128 * j.val + l.val, by omega⟩) := by
  unfold ldHalf
  rw [View.readAt_eq_ld, ha.read_unread]
  exact congrArg x (funext fun a => by
    match a with
    | ⟨0, _⟩ => exact Fin.ext (by change 0 + 1 * k.val = k.val; omega)
    | ⟨1, _⟩ => exact Fin.ext (by change 128 * j.val + 1 * l.val = 128 * j.val + l.val; omega))

/-- The packed bytes a slab's load takes. -/
theorem ldBytes_at (a : Memref sig .tc .vmem S18x12x512 .i8) (ha : a.IsWhole) (x : Vec Ideal S18x12x512 .i8) (j : Fin 4) (k : Fin 18) (i : Fin 12) (l : Fin 128) :
    ldBytes a ha x j k (ix3 0 i l) = x (ix3 k i ⟨128 * j.val + l.val, by omega⟩) := by
  unfold ldBytes
  rw [View.readAt_eq_ld, ha.read_unread]
  exact congrArg x (funext fun a => by
    match a with
    | ⟨0, _⟩ => exact Fin.ext (by change k.val + 1 * 0 = k.val; omega)
    | ⟨1, _⟩ => exact Fin.ext (by change 0 + 1 * i.val = i.val; omega)
    | ⟨2, _⟩ => exact Fin.ext (by change 128 * j.val + 1 * l.val = 128 * j.val + l.val; omega))

/-- The codes a tile's load takes. -/
theorem ldCode_at (a : Memref sig .tc .vmem S512x2304 .i8) (ha : a.IsWhole) (x : Vec Ideal S512x2304 .i8) (t : Fin 2) (k : Fin 18) (l : Fin 256) (j : Fin 128) :
    ldCode a ha x t k (ix2 l j) = x (ix2 ⟨256 * t.val + l.val, by omega⟩ ⟨128 * k.val + j.val, by omega⟩) := by
  unfold ldCode
  rw [View.readAt_eq_ld, ha.read_unread]
  exact congrArg x (funext fun a => by
    match a with
    | ⟨0, _⟩ => exact Fin.ext (by change 256 * t.val + 1 * l.val = 256 * t.val + l.val; omega)
    | ⟨1, _⟩ => exact Fin.ext (by change 128 * k.val + 1 * j.val = 128 * k.val + j.val; omega))

/-- The decoded scale of pair `g`, half `p` at column `n`, from the point's inputs. -/
theorem scales_scale (a3 : Memref sig .tc .vmem S18x512 .i16) (h3 : a3.IsWhole) (a4 : Memref sig .tc .vmem S18x512 .i16) (h4 : a4.IsWhole)
    (a5 : Memref sig .tc .vmem S18x12x512 .i8) (h5 : a5.IsWhole) (x2 x3 : Vec Ideal S18x512 .i16) (x4 : Vec Ideal S18x12x512 .i8)
    (k : Fin 18) (g : Fin 4) (p : Fin 2) (n : Fin 512) :
    View.canon (Val := Elt Ideal) (s := S18x8x2x512) (e := .bf16) (scalePieces (ldHalf a3 h3 x2) (ldHalf a4 h4 x3) (ldBytes a5 h5 x4))
        (ix4 k ⟨(scaleRow g).val, by omega⟩ p n) =
      scale (x2 (ix2 k n)) (fun i => x4 (ix3 k i n)) g p := by
  have en : (⟨128 * (n.val / 128) + n.val % 128, by omega⟩ : Fin 512) = n := Fin.ext (by change 128 * (n.val / 128) + n.val % 128 = n.val; omega)
  rw [scales_at, decode_scale, half_at, ldHalf_at]
  simp only [ldBytes_at, en]
  rfl

/-- The decoded offset of pair `g`, half `p` at column `n`, from the point's inputs. -/
theorem scales_offset (a3 : Memref sig .tc .vmem S18x512 .i16) (h3 : a3.IsWhole) (a4 : Memref sig .tc .vmem S18x512 .i16) (h4 : a4.IsWhole)
    (a5 : Memref sig .tc .vmem S18x12x512 .i8) (h5 : a5.IsWhole) (x2 x3 : Vec Ideal S18x512 .i16) (x4 : Vec Ideal S18x12x512 .i8)
    (k : Fin 18) (g : Fin 4) (p : Fin 2) (n : Fin 512) :
    View.canon (Val := Elt Ideal) (s := S18x8x2x512) (e := .bf16) (scalePieces (ldHalf a3 h3 x2) (ldHalf a4 h4 x3) (ldBytes a5 h5 x4))
        (ix4 k ⟨(scaleRow g).val + 2, by omega⟩ p n) =
      offset (x3 (ix2 k n)) (fun i => x4 (ix3 k i n)) g p := by
  have en : (⟨128 * (n.val / 128) + n.val % 128, by omega⟩ : Fin 512) = n := Fin.ext (by change 128 * (n.val / 128) + n.val % 128 = n.val; omega)
  rw [scales_at, decode_offset, half_at, ldHalf_at]
  simp only [ldBytes_at, en]
  rfl

/-- An element of a tile after all its steps is the specification's element: `X` the activations in their own order,
`xl` the loads of them in the permuted order. -/
theorem tile_element (a2 : Memref sig .tc .vmem S512x2304 .i8) (h2 : a2.IsWhole)
    (a3 : Memref sig .tc .vmem S18x512 .i16) (h3 : a3.IsWhole) (a4 : Memref sig .tc .vmem S18x512 .i16) (h4 : a4.IsWhole)
    (a5 : Memref sig .tc .vmem S18x12x512 .i8) (h5 : a5.IsWhole) (a8 : Memref sig .tc .vmem S18x8x2x512 .bf16)
    (x1 : Vec Ideal S512x2304 .i8) (x2 x3 : Vec Ideal S18x512 .i16) (x4 : Vec Ideal S18x12x512 .i8)
    (xl : Fin 18 → Vec Ideal S192x256 .bf16) (X : Fin 192 → Fin 4608 → EReal)
    (hx : ∀ (r : Fin 192) (k : Fin 18) (g : Fin 4) (p : Fin 2) (j : Fin 32),
      xl k (ix2 r ⟨64 * g.val + 2 * j.val + p.val, by omega⟩) = X r ⟨256 * k.val + 64 * g.val + 32 * p.val + j.val, by omega⟩)
    (r : Fin 192) (t : Fin 2) (l : Fin 256) (n : Fin 512) (hn : 256 * t.val + l.val = n.val) :
    accTo (F := Ideal) (ldCode a2 h2 x1 t) (fun k => a8.view.readCov (scalePieces (ldHalf a3 h3 x2) (ldHalf a4 h4 x3) (ldBytes a5 h5 x4))
        (Rect.unit (s := S18x8x2x512) ![k.val, 0, 0, 256 * t.val] S1x8x2x256.size (inbRaw t k)).toLoadRect) xl 18 (Nat.le_refl 18) (ix2 r l) =
      element (X r) (fun i => x1 (ix2 n i)) (fun k => x2 (ix2 k n)) (fun k => x3 (ix2 k n)) (fun k i => x4 (ix3 k i n)) := by
  rw [accTo_at]
  refine Finset.sum_congr rfl fun k _ => ?_
  refine sum_rows _ _ fun g p j => ?_
  have eb : ∀ (e : Fin 8), (Rect.unit (s := S18x8x2x512) ![k.val, 0, 0, 256 * t.val] S1x8x2x256.size (inbRaw t k)).toLoadRect.idx (ix4 0 e p l)
      = ix4 k e p n := fun e => funext fun a => by
    match a with
    | ⟨0, _⟩ => exact Fin.ext (by change k.val + 1 * 0 = k.val; omega)
    | ⟨1, _⟩ => exact Fin.ext (by change 0 + 1 * e.val = e.val; omega)
    | ⟨2, _⟩ => exact Fin.ext (by change 0 + 1 * p.val = p.val; omega)
    | ⟨3, _⟩ => exact Fin.ext (by change 256 * t.val + 1 * l.val = n.val; omega)
  have ec : (⟨256 * t.val + l.val, by omega⟩ : Fin 512) = n := Fin.ext hn
  have ej : (⟨128 * k.val + (32 * g.val + j.val), by omega⟩ : Fin 2304) = ⟨128 * k.val + 32 * g.val + j.val, by omega⟩ :=
    Fin.ext (Nat.add_assoc _ _ _).symm
  rw [weight_at, code_at, ldCode_at, hx]
  simp only [View.readCov_eq_canon', eb, scales_scale, scales_offset, ec, ej]
  rfl

end Cert.KernelIdeal.Value
-- ==== Proof.Result.lean ====
module

public import proofs.«01_k».proof.Proof.Block

/-!
The kernel's result array: what the two cases of a grid point leave, the permuted activations every point finds in the
buffer the first point filled, and the array after the last point, element by element.
-/

@[expose] public section

noncomputable section

namespace Cert.KernelIdeal.Value

open Cert.KernelIdeal Cert.KernelIdeal.Gen Cert.Spec
open Idealize.ShloMosaic Idealize.ShloMosaic.TcCoe Idealize.SL.Sem
open Idealize.ShloMosaic.Pipeline (Dat)

/-- The activations in the order the kernel multiplies them. -/
def permuted (X : Vec Ideal S192x4608 .bf16) : Vec Ideal S192x4608 .bf16 := fun y =>
  X (ix2 (n0 := 192) (n1 := 4608) (y 0) ⟨128 * ((y 1).val / 128) + (srcLane ⟨(y 1).val % 128, Nat.mod_lt _ (by decide)⟩).val, by
    have h : (y 1).val < 4608 := (y 1).isLt
    have := (srcLane ⟨(y 1).val % 128, Nat.mod_lt _ (by decide)⟩).isLt
    omega⟩)

/-- The element of the result at row `r`, column `n` of a point's block. -/
def blockValue (X : Vec Ideal S192x4608 .bf16) (x1 : Vec Ideal S512x2304 .i8) (x2 x3 : Vec Ideal S18x512 .i16) (x4 : Vec Ideal S18x12x512 .i8)
    (r : Fin 192) (n : Fin 512) : EReal :=
  element (fun i => X (ix2 r i)) (fun i => x1 (ix2 n i)) (fun k => x2 (ix2 k n)) (fun k => x3 (ix2 k n)) (fun k i => x4 (ix3 k i n))

/-- A step's load of the permuted activations, at the row of pair `g`, half `p`, position `j`: the activation of that
place in the super-block's own order. -/
theorem permuted_at (X : Vec Ideal S192x4608 .bf16) (r : Fin 192) (k : Fin 18) (g : Fin 4) (p : Fin 2) (j : Fin 32) :
    permuted X (ix2 r ⟨256 * k.val + (64 * g.val + 2 * j.val + p.val), by omega⟩) =
      X (ix2 r ⟨256 * k.val + 64 * g.val + 32 * p.val + j.val, by omega⟩) := by
  refine congrArg (fun i => X (ix2 r i)) (Fin.ext ?_)
  change 128 * ((256 * k.val + (64 * g.val + 2 * j.val + p.val)) / 128)
    + (64 * ((256 * k.val + (64 * g.val + 2 * j.val + p.val)) % 128 / 64) + 32 * ((256 * k.val + (64 * g.val + 2 * j.val + p.val)) % 128 % 2)
      + (256 * k.val + (64 * g.val + 2 * j.val + p.val)) % 128 % 64 / 2) = 256 * k.val + 64 * g.val + 32 * p.val + j.val
  omega

/-- The stores of the first point leave the permuted activations. -/
theorem perm_canon (a1 : Memref sig .tc .vmem S192x4608 .bf16) (h1 : a1.IsWhole) (x0 : Vec Ideal S192x4608 .bf16) :
    View.canon (Val := Elt Ideal) (s := S192x4608) (e := .bf16) (permPieces fun n =>
      View.readAt (Elt Ideal) a1.view (Rect.unit (s := S192x4608) ![0, 128 * n.val] S192x128.size (inbLane n)).toLoadRect (h1.unread x0)) =
      permuted x0 := by
  funext y
  have hy0 : (y 0).val < 192 := (y 0).isLt
  have hy1 : (y 1).val < 4608 := (y 1).isLt
  refine View.canon_ofFn_unit_eq_of_forall _ _ _ _ _ _ ⟨Fin.rev ⟨(y 1).val / 128, by omega⟩, fun a => ?_⟩ fun i x hx => ?_
  · rw [Fin.rev_rev]
    match a with
    | ⟨0, _⟩ => change 0 ≤ (y 0).val ∧ (y 0).val < 0 + 192; omega
    | ⟨1, _⟩ => change 128 * ((y 1).val / 128) ≤ (y 1).val ∧ (y 1).val < 128 * ((y 1).val / 128) + 128; omega
  · have e0 : (y 0).val = 0 + (x 0).val := hx 0
    have e1 : (y 1).val = 128 * (Fin.rev i).val + (x 1).val := hx 1
    have l0 : (x 0).val < 192 := (x 0).isLt
    have l1 : (x 1).val < 128 := (x 1).isLt
    have hd : (Fin.rev i).val = (y 1).val / 128 := by omega
    have hm : (x 1).val = (y 1).val % 128 := by omega
    have ex : x = ix2 (⟨(x 0).val, l0⟩ : Fin 192) (⟨(x 1).val, l1⟩ : Fin 128) := by
      funext a
      match a with
      | ⟨0, _⟩ => rfl
      | ⟨1, _⟩ => rfl
    refine (congrArg _ ex).trans ((perm_at _ _ _).trans ?_)
    simp only [View.readAt_eq_ld, h1.read_unread]
    refine congrArg x0 (funext fun a => ?_)
    match a with
    | ⟨0, _⟩ => exact Fin.ext (by change 0 + 1 * (x 0).val = (y 0).val; omega)
    | ⟨1, _⟩ => exact Fin.ext (by
        change 128 * (Fin.rev i).val + 1 * (64 * ((x 1).val / 64) + 32 * ((x 1).val % 2) + (x 1).val % 64 / 2)
          = 128 * ((y 1).val / 128) + (64 * ((y 1).val % 128 / 64) + 32 * ((y 1).val % 128 % 2) + (y 1).val % 128 % 64 / 2)
        rw [hd, hm]; omega)

/-- The first point leaves the permuted activations in the carried buffer. -/
theorem carried_first (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : cond0_0 i)
    (x0 : Vec Ideal S192x4608 .bf16) (x1 : Vec Ideal S512x2304 .i8) (x2 : Vec Ideal S18x512 .i16) (x3 : Vec Ideal S18x512 .i16) (x4 : Vec Ideal S18x12x512 .i8) :
    sout0_A_0 c i arg1 harg1 arg2 harg2 arg3 harg3 arg4 harg4 arg5 harg5 arg6 harg6 arg7 harg7 arg8 harg8 hc0 x0 x1 x2 x3 x4 = permuted x0 := by
  unfold sout0_A_0
  rw [View.read_writes_junk_eq_canon, carried_A, perm_A]
  exact perm_canon arg1 harg1 x0

/-- The tiles of a point are the specification's elements, whatever buffer the permuted activations were loaded from. -/
theorem tiles_value (a2 : Memref sig .tc .vmem S512x2304 .i8) (h2 : a2.IsWhole)
    (a3 : Memref sig .tc .vmem S18x512 .i16) (h3 : a3.IsWhole) (a4 : Memref sig .tc .vmem S18x512 .i16) (h4 : a4.IsWhole)
    (a5 : Memref sig .tc .vmem S18x12x512 .i8) (h5 : a5.IsWhole) (a8 : Memref sig .tc .vmem S18x8x2x512 .bf16)
    (x1 : Vec Ideal S512x2304 .i8) (x2 x3 : Vec Ideal S18x512 .i16) (x4 : Vec Ideal S18x12x512 .i8)
    (xl : Fin 18 → Vec Ideal S192x256 .bf16) (X : Vec Ideal S192x4608 .bf16)
    (hx : ∀ k, xl k = View.ld (permuted X) (Rect.unit (s := S192x4608) ![0, 256 * k.val] S192x256.size (inbX k)))
    (r : Fin 192) (n : Fin 512) :
    View.canon (Val := Elt Ideal) (s := S192x512) (e := .bf16) (tilePieces (ldCode a2 h2 x1)
        (fun t k => a8.view.readCov (scalePieces (ldHalf a3 h3 x2) (ldHalf a4 h4 x3) (ldBytes a5 h5 x4))
          (Rect.unit (s := S18x8x2x512) ![k.val, 0, 0, 256 * t.val] S1x8x2x256.size (inbRaw t k)).toLoadRect) xl) (ix2 r n) =
      blockValue X x1 x2 x3 x4 r n := by
  rw [tiles_at]
  refine tile_element a2 h2 a3 h3 a4 h4 a5 h5 a8 x1 x2 x3 x4 xl (fun r i => X (ix2 r i)) (fun r k g p j => ?_) r _ _ n ?_
  · rw [hx k, ← permuted_at X r k g p j]
    refine congrArg (permuted X) (funext fun a => ?_)
    match a with
    | ⟨0, _⟩ => exact Fin.ext (by change 0 + 1 * r.val = r.val; omega)
    | ⟨1, _⟩ => exact Fin.ext (by
        change 256 * k.val + 1 * (64 * g.val + 2 * j.val + p.val) = 256 * k.val + (64 * g.val + 2 * j.val + p.val); omega)
  · change 256 * (n.val / 256) + n.val % 256 = n.val; omega

/-- What the first point leaves in its block of the result. -/
theorem block_first (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : cond0_0 i)
    (x0 : Vec Ideal S192x4608 .bf16) (x1 : Vec Ideal S512x2304 .i8) (x2 : Vec Ideal S18x512 .i16) (x3 : Vec Ideal S18x512 .i16) (x4 : Vec Ideal S18x12x512 .i8)
    (r : Fin 192) (n : Fin 512) :
    out0_A_5 c i arg1 harg1 arg2 harg2 arg3 harg3 arg4 harg4 arg5 harg5 arg6 harg6 arg7 harg7 arg8 harg8 hc0 x0 x1 x2 x3 x4 (ix2 r n) = blockValue x0 x1 x2 x3 x4 r n := by
  unfold out0_A_5
  rw [View.read_writes_junk_eq_canon, tiles_A, scales_A, perm_A]
  refine tiles_value arg2 harg2 arg3 harg3 arg4 harg4 arg5 harg5 arg8 x1 x2 x3 x4 _ x0 (fun k => ?_) r n
  rw [View.readCov_eq_canon', perm_canon]

/-- What a later point leaves in its block, the carried buffer holding the permuted activations. -/
theorem block_later (c : Dev nD) (i : grid0.Coords) (arg1 : Memref sig .tc .vmem S192x4608 .bf16) (harg1 : arg1.IsWhole)
    (arg2 : Memref sig .tc .vmem S512x2304 .i8) (harg2 : arg2.IsWhole) (arg3 : Memref sig .tc .vmem S18x512 .i16) (harg3 : arg3.IsWhole)
    (arg4 : Memref sig .tc .vmem S18x512 .i16) (harg4 : arg4.IsWhole) (arg5 : Memref sig .tc .vmem S18x12x512 .i8) (harg5 : arg5.IsWhole)
    (arg6 : Memref sig .tc .vmem S192x512 .bf16) (harg6 : arg6.IsWhole) (arg7 : Memref sig .tc .vmem S192x4608 .bf16) (harg7 : arg7.IsWhole)
    (arg8 : Memref sig .tc .vmem S18x8x2x512 .bf16) (harg8 : arg8.IsWhole) (hc0 : ¬cond0_0 i)
    (x0 : Vec Ideal S192x4608 .bf16) (x1 : Vec Ideal S512x2304 .i8) (x2 : Vec Ideal S18x512 .i16) (x3 : Vec Ideal S18x512 .i16) (x4 : Vec Ideal S18x12x512 .i8)
    (X : Vec Ideal S192x4608 .bf16) (r : Fin 192) (n : Fin 512) :
    out0_B_5 c i arg1 harg1 arg2 harg2 arg3 harg3 arg4 harg4 arg5 harg5 arg6 harg6 arg7 harg7 arg8 harg8 hc0 x0 x1 x2 x3 x4 (permuted X) (ix2 r n) = blockValue X x1 x2 x3 x4 r n := by
  unfold out0_B_5
  rw [View.read_writes_junk_eq_canon, tiles_B, scales_B]
  refine tiles_value arg2 harg2 arg3 harg3 arg4 harg4 arg5 harg5 arg8 x1 x2 x3 x4 _ X (fun k => ?_) r n
  rw [View.readAt_eq_ld, harg7.read_unread]

variable (m : (ℓ : Loc nD τ sig) → Buf (Elt Ideal) ℓ)

/-- After every point the carried buffer holds the activations of the first point's block, permuted. -/
theorem carried (c : Dev nD) (h0 : 0 < cfg0.N) : ∀ (n : Nat) (h : n < cfg0.N), (outsAt0 m c n h).2 = permuted (iblk m c 0 ⟨0, h0⟩)
  | 0, h => by
      refine (congrArg Prod.snd (outsAt0_A m c ⟨0, h⟩ rfl)).trans ?_
      dsimp only
      rw [carried_first]
  | n + 1, h => by
      have hN : cfg0.N = 72 := N_0
      refine (congrArg Prod.snd (outsAt0_B m c ⟨n + 1, h⟩ (by change ¬ (n + 1) % 72 = 0; omega))).trans ?_
      dsimp only
      unfold sout0_B_0
      exact carried c h0 n _

/-- What point `t` leaves in its block of the result. -/
theorem outs_value (c : Dev nD) (h0 : 0 < cfg0.N) (t : Fin cfg0.N) (r : Fin 192) (n : Fin 512) :
    (outsAt0 m c t.val t.isLt).1 (ix2 r n) =
      blockValue (iblk m c 0 ⟨0, h0⟩) (iblk m c 1 t) (iblk m c 2 t) (iblk m c 3 t) (iblk m c 4 t) r n := by
  have hN : cfg0.N = 72 := N_0
  have hlt := t.isLt
  by_cases ht : t.val % 72 = 0
  · rw [outsAt0_A m c t ht]
    have e : t = ⟨0, h0⟩ := Fin.ext (by change t.val = 0; omega)
    dsimp only
    rw [block_first, e]
  · rw [outsAt0_B m c t ht, carried m c h0]
    dsimp only
    rw [block_later]

end Cert.KernelIdeal.Value
-- ==== Proof.RefValue.lean ====
module

public import proofs.«01_k».proof.Proof.Gen.ReferenceIdeal.Run
public import proofs.«01_k».proof.Proof.Spec

/-!
# The reference's result at an index

`REF` is the reference program's result as one term of its five arguments. `ref_at` reads it at a row `r` and an output
column `o`: two sums over the 72 pairs of groups and the 32 positions of a group.
-/

@[expose] public section
set_option maxRecDepth 16384
noncomputable section
namespace Cert.ReferenceIdeal.Value
open Cert.Spec Cert.ReferenceIdeal Cert.ReferenceIdeal.Gen Idealize.ShloMosaic Idealize.ShloMosaic.TcCoe Idealize.SL.Sem

/-! ## The reference's terms -/

/-- The exponent field of the binary16 words. -/
def refExponent (w : IVec S36864x18 32) : IVec S36864x18 32 :=
  andi (Host.shrsi w (broadcastInDim S36864x18 ![] bcast_S_S36864x18 (constantI S_ 32 10#32))) (broadcastInDim S36864x18 ![] bcast_S_S36864x18 (constantI S_ 32 31#32))
/-- The fraction field of the binary16 words, as numbers. -/
def refFraction (w : IVec S36864x18 32) : FVec Ideal S36864x18 .f32 :=
  sitofp .f32 (andi w (broadcastInDim S36864x18 ![] bcast_S_S36864x18 (constantI S_ 32 1023#32)))
/-- The values of the binary16 words. -/
def refHalf (w : IVec S36864x18 32) : FVec Ideal S36864x18 .f32 :=
  mulf (select (cmpi .eq (Host.shrsi w (broadcastInDim S36864x18 ![] bcast_S_S36864x18 (constantI S_ 32 15#32))) (broadcastInDim S36864x18 ![] bcast_S_S36864x18 (constantI S_ 32 1#32))) (broadcastInDim S36864x18 ![] bcast_S_S36864x18 (constant S_ .f32 0xBF800000#32)) (broadcastInDim S36864x18 ![] bcast_S_S36864x18 (constant S_ .f32 0x3F800000#32))) (select (cmpi .eq (refExponent w) (broadcastInDim S36864x18 ![] bcast_S_S36864x18 (constantI S_ 32 31#32))) (select (cmpf .oeq (refFraction w) (broadcastInDim S36864x18 ![] bcast_S_S36864x18 (constant S_ .f32 0x00000000#32))) (broadcastInDim S36864x18 ![] bcast_S_S36864x18 (constant S_ .f32 0x7F800000#32)) (broadcastInDim S36864x18 ![] bcast_S_S36864x18 (constant S_ .f32 0x7FC00000#32))) (select (cmpi .eq (refExponent w) (broadcastInDim S36864x18 ![] bcast_S_S36864x18 (constantI S_ 32 0#32))) (mulf (refFraction w) (broadcastInDim S36864x18 ![] bcast_S_S36864x18 (constant S_ .f32 0x33800000#32))) (mulf (addf (broadcastInDim S36864x18 ![] bcast_S_S36864x18 (constant S_ .f32 0x44800000#32)) (refFraction w)) (Host.powf (broadcastInDim S36864x18 ![] bcast_S_S36864x18 (constant S_ .f32 0x40000000#32)) (sitofp .f32 (subi (refExponent w) (broadcastInDim S36864x18 ![] bcast_S_S36864x18 (constantI S_ 32 25#32))))))))
/-- Bytes 0 to 3 of the packed codes. -/
def refBytes0 (b : IVec S36864x18x12 8) : IVec S36864x18x4 32 :=
  extractStridedSlice S36864x18x4 ![0, 0, 0] (extui 32 b natLt_8_32) slices_S36864x18x12_S36864x18x4_0_0_0
/-- Bytes 4 to 7 of the packed codes. -/
def refBytes4 (b : IVec S36864x18x12 8) : IVec S36864x18x4 32 :=
  extractStridedSlice S36864x18x4 ![0, 0, 4] (extui 32 b natLt_8_32) slices_S36864x18x12_S36864x18x4_0_0_4
/-- Bytes 8 to 11 of the packed codes. -/
def refBytes8 (b : IVec S36864x18x12 8) : IVec S36864x18x4 32 :=
  extractStridedSlice S36864x18x4 ![0, 0, 8] (extui 32 b natLt_8_32) slices_S36864x18x12_S36864x18x4_0_0_8
/-- The scale codes. -/
def refSc (b : IVec S36864x18x12 8) : IVec S36864x18x8 32 :=
  concatenate S36864x18x8 2 [⟨S36864x18x4, (andi (refBytes0 b) (broadcastInDim S36864x18x4 ![] bcast_S_S36864x18x4 (constantI S_ 32 63#32)))⟩, ⟨S36864x18x4, (ori (andi (refBytes8 b) (broadcastInDim S36864x18x4 ![] bcast_S_S36864x18x4 (constantI S_ 32 15#32))) (Host.shli (Host.shrsi (refBytes0 b) (broadcastInDim S36864x18x4 ![] bcast_S_S36864x18x4 (constantI S_ 32 6#32))) (broadcastInDim S36864x18x4 ![] bcast_S_S36864x18x4 (constantI S_ 32 4#32))))⟩] concatenates_S36864x18x4_S36864x18x4_S36864x18x8_d2
/-- The offset codes. -/
def refMn (b : IVec S36864x18x12 8) : IVec S36864x18x8 32 :=
  concatenate S36864x18x8 2 [⟨S36864x18x4, (andi (refBytes4 b) (broadcastInDim S36864x18x4 ![] bcast_S_S36864x18x4 (constantI S_ 32 63#32)))⟩, ⟨S36864x18x4, (ori (Host.shrsi (refBytes8 b) (broadcastInDim S36864x18x4 ![] bcast_S_S36864x18x4 (constantI S_ 32 4#32))) (Host.shli (Host.shrsi (refBytes4 b) (broadcastInDim S36864x18x4 ![] bcast_S_S36864x18x4 (constantI S_ 32 6#32))) (broadcastInDim S36864x18x4 ![] bcast_S_S36864x18x4 (constantI S_ 32 4#32))))⟩] concatenates_S36864x18x4_S36864x18x4_S36864x18x8_d2
/-- Values times codes, grouped in pairs. -/
def refScaled (h : FVec Ideal S36864x18 .f32) (q : IVec S36864x18x8 32) : FVec Ideal S36864x72x2 .bf16 :=
  shapeCast S36864x72x2 (truncf .bf16 (mulf (broadcastInDim S36864x18x8 ![0, 1, 2] bcast_S36864x18x1_S36864x18x8_0_1_2 (broadcastInDim S36864x18x1 ![0, 1] bcast_S36864x18_S36864x18x1_0_1 h)) (sitofp .f32 q)) bitsLt_bf16_f32) shapeCasts_S36864x18x8_S36864x72x2
/-- The packed weight codes. -/
def refQ (q : IVec S36864x2304 8) : IVec S36864x72x32 32 :=
  shapeCast S36864x72x32 (extui 32 q natLt_8_32) shapeCasts_S36864x2304_S36864x72x32
/-- The activations in pairs of groups. -/
def refX (x : FVec Ideal S192x1x4608 .bf16) : FVec Ideal S192x1x72x2x32 .bf16 :=
  shapeCast S192x1x72x2x32 x shapeCasts_S192x1x4608_S192x1x72x2x32
/-- The reference's result. -/
def REF (x : FVec Ideal S192x1x4608 .bf16) (q : IVec S36864x2304 8) (d dmin : IVec S36864x18 16) (b : IVec S36864x18x12 8) :
    FVec Ideal S192x36864 .bf16 :=
  shapeCast S192x36864 (truncf .bf16 (addf
    (Host.dotGeneral dot_S192x1x72x32_S36864x72x32_S192x1x36864_32_21_01_0_n_n none (shapeCast S192x1x72x32 (extractStridedSlice S192x1x72x1x32 ![0, 0, 0, 0, 0] (refX x) slices_S192x1x72x2x32_S192x1x72x1x32_0_0_0_0_0) shapeCasts_S192x1x72x1x32_S192x1x72x32)
      (subf (mulf (sitofp .bf16 (andi (refQ q) (broadcastInDim S36864x72x32 ![] bcast_S_S36864x72x32 (constantI S_ 32 15#32)))) (broadcastInDim S36864x72x32 ![0, 1, 2] bcast_S36864x72x1_S36864x72x32_0_1_2 (extractStridedSlice S36864x72x1 ![0, 0, 0] (refScaled (refHalf (extui 32 d natLt_16_32)) (refSc b)) slices_S36864x72x2_S36864x72x1_0_0_0))) (broadcastInDim S36864x72x32 ![0, 1, 2] bcast_S36864x72x1_S36864x72x32_0_1_2 (extractStridedSlice S36864x72x1 ![0, 0, 0] (refScaled (refHalf (extui 32 dmin natLt_16_32)) (refMn b)) slices_S36864x72x2_S36864x72x1_0_0_0))))
    (Host.dotGeneral dot_S192x1x72x32_S36864x72x32_S192x1x36864_32_21_01_0_n_n none (shapeCast S192x1x72x32 (extractStridedSlice S192x1x72x1x32 ![0, 0, 0, 1, 0] (refX x) slices_S192x1x72x2x32_S192x1x72x1x32_0_0_0_1_0) shapeCasts_S192x1x72x1x32_S192x1x72x32)
      (subf (mulf (sitofp .bf16 (Host.shrsi (refQ q) (broadcastInDim S36864x72x32 ![] bcast_S_S36864x72x32 (constantI S_ 32 4#32)))) (broadcastInDim S36864x72x32 ![0, 1, 2] bcast_S36864x72x1_S36864x72x32_0_1_2 (extractStridedSlice S36864x72x1 ![0, 0, 1] (refScaled (refHalf (extui 32 d natLt_16_32)) (refSc b)) slices_S36864x72x2_S36864x72x1_0_0_1))) (broadcastInDim S36864x72x32 ![0, 1, 2] bcast_S36864x72x1_S36864x72x32_0_1_2 (extractStridedSlice S36864x72x1 ![0, 0, 1] (refScaled (refHalf (extui 32 dmin natLt_16_32)) (refMn b)) slices_S36864x72x2_S36864x72x1_0_0_1))))) bitsLt_bf16_f32) shapeCasts_S192x1x36864_S192x36864

/-! ## The terms at an index -/

/-- The value of a binary16 word. -/
theorem refHalf_at (d : IVec S36864x18 16) (o : Fin 36864) (k : Fin 18) :
    refHalf (extui 32 d natLt_16_32) (ix2 o k) = Half.halfValue ((d (ix2 o k)).setWidth 32) := by
  pointwise [refHalf, refExponent, refFraction]
  rfl

/-- A group's scale. -/
theorem refScale_at (h : FVec Ideal S36864x18 .f32) (b : IVec S36864x18x12 8) (o : Fin 36864) (P : Fin 72) (p : Fin 2) :
    refScaled h (refSc b) (ix3 o P p) = h (ix2 o ⟨P.val / 4, by omega⟩) *
      num (scCode (fun i => b (ix3 o ⟨P.val / 4, by omega⟩ i)) ⟨P.val % 4, by omega⟩ p) := by
  pointwise [refScaled, refSc, refBytes0, refBytes4, refBytes8]
  unfold num scCode
  refine congrArg (h _ * ·) (congrArg (FloatOps.sitofp (F := Ideal) FTy.f32) ?_)
  by_cases hg : P.val % 4 < 2
  · rw [dif_pos (by omega), dif_pos hg]
    have e : (⟨P.val % 4 * 2 + p.val, by omega⟩ : Fin 12) = ⟨2 * (P.val % 4) + p.val, by omega⟩ := Fin.ext (by simp only; omega)
    rw [e]
  · rw [dif_neg (by omega), dif_neg hg]
    have e : (⟨8 + (P.val % 4 * 2 + p.val - 4), by omega⟩ : Fin 12) = ⟨4 + 2 * (P.val % 4) + p.val, by omega⟩ := Fin.ext (by simp only; omega)
    have e' : (⟨P.val % 4 * 2 + p.val - 4, by omega⟩ : Fin 12) = ⟨2 * (P.val % 4) + p.val - 4, by omega⟩ := Fin.ext (by simp only; omega)
    rw [e, e']

/-- A group's offset. -/
theorem refOffset_at (h : FVec Ideal S36864x18 .f32) (b : IVec S36864x18x12 8) (o : Fin 36864) (P : Fin 72) (p : Fin 2) :
    refScaled h (refMn b) (ix3 o P p) = h (ix2 o ⟨P.val / 4, by omega⟩) *
      num (mnCode (fun i => b (ix3 o ⟨P.val / 4, by omega⟩ i)) ⟨P.val % 4, by omega⟩ p) := by
  pointwise [refScaled, refMn, refBytes0, refBytes4, refBytes8]
  unfold num mnCode
  refine congrArg (h _ * ·) (congrArg (FloatOps.sitofp (F := Ideal) FTy.f32) ?_)
  by_cases hg : P.val % 4 < 2
  · rw [dif_pos (by omega), dif_pos hg]
    have e : (⟨4 + (P.val % 4 * 2 + p.val), by omega⟩ : Fin 12) = ⟨4 + 2 * (P.val % 4) + p.val, by omega⟩ := Fin.ext (by simp only; omega)
    rw [e]
  · rw [dif_neg (by omega), dif_neg hg]
    have e : (⟨8 + (P.val % 4 * 2 + p.val - 4), by omega⟩ : Fin 12) = ⟨4 + 2 * (P.val % 4) + p.val, by omega⟩ := Fin.ext (by simp only; omega)
    have e' : (⟨4 + (P.val % 4 * 2 + p.val - 4), by omega⟩ : Fin 12) = ⟨2 * (P.val % 4) + p.val, by omega⟩ := Fin.ext (by simp only; omega)
    rw [e, e']

/-- The reference's result at row `r`, output column `o`. -/
theorem ref_at (x : FVec Ideal S192x1x4608 .bf16) (q : IVec S36864x2304 8) (d dmin : IVec S36864x18 16) (b : IVec S36864x18x12 8)
    (r : Fin 192) (o : Fin 36864) :
    REF x q d dmin b (ix2 r o) = element (fun i => x (ix3 r 0 i)) (fun i => q (ix2 o i)) (fun k => d (ix2 o k)) (fun k => dmin (ix2 o k))
      (fun k i => b (ix3 o k i)) := by
  pointwise [REF, refQ, refX]
  unfold element
  rw [sum_halves]
  refine congrArg₂ (· + ·) ?_ ?_
  all_goals
    refine Finset.sum_congr rfl fun j _ => Finset.sum_congr rfl fun P _ => ?_
    rw [refScale_at, refOffset_at, refHalf_at, refHalf_at]
    unfold term
    refine Ideal.mul_congr ?_ ?_
    · exact congrArg (fun i => x (ix3 r 0 i)) (Fin.ext (by simp; omega))
    · refine congrArg₂ (· - ·) (congrArg₂ (· * ·) ?_ rfl) rfl
      unfold num nibble
      have e : (⟨P.val * 32 + j.val, by omega⟩ : Fin 2304) = ⟨128 * (P.val / 4) + 32 * (P.val % 4) + j.val, by omega⟩ := Fin.ext (by simp only; omega)
      rw [e]
      rfl

end Cert.ReferenceIdeal.Value
-- ==== Proof.Equation.lean ====
module

public import proofs.«01_k».proof.Proof.Result
public import proofs.«01_k».proof.Proof.RefValue

/-!
The kernel's result array is the reference's term of the same five arguments.
-/

@[expose] public section

set_option maxRecDepth 16384

noncomputable section

namespace Cert.KernelIdeal.Value

open Cert.KernelIdeal Cert.KernelIdeal.Gen Cert.Spec
open Idealize.ShloMosaic Idealize.ShloMosaic.TcCoe Idealize.SL.Sem
open Idealize.ShloMosaic.Pipeline (Dat)

variable (m : (ℓ : Loc nD τ sig) → Buf (Elt Ideal) ℓ)

/-- The blocks the windows take at a grid point. -/
theorem idx : ∀ t : Fin cfg0.N, win0_0.index t = ![0, 0] ∧ win0_1.index t = ![t.val, 0] ∧ win0_2.index t = ![0, t.val]
    ∧ win0_3.index t = ![0, t.val] ∧ win0_4.index t = ![0, 0, t.val] ∧ win0_5.index t = ![0, t.val] :=
  (by decide +kernel : ∀ t : Fin grid0.N, _)

/-- The activations' block at a grid point is the whole array. -/
theorem block_x (c : Dev nD) (t : Fin cfg0.N) (r : Fin 192) (i : Fin 4608) :
    (iblk m c 0 t : Vec Ideal S192x4608 .bf16) (ix2 r i) = (m ((c : Thread nD τ).loc main_arg0) : Vec Ideal S192x1x4608 .bf16) (ix3 r 0 i) := by
  blk_point [iblk, V, idx t]

/-- The codes' block. -/
theorem block_q (c : Dev nD) (t : Fin cfg0.N) (n : Fin 512) (i : Fin 2304) (o : Fin 36864) (ho : o.val = 512 * t.val + n.val) :
    (iblk m c 1 t : Vec Ideal S512x2304 .i8) (ix2 n i) = (m ((c : Thread nD τ).loc main_arg1) : Vec Ideal S36864x2304 .i8) (ix2 o i) := by
  blk_point [iblk, V, idx t]

/-- The block of the scales' words. -/
theorem block_d (c : Dev nD) (t : Fin cfg0.N) (k : Fin 18) (n : Fin 512) (o : Fin 36864) (ho : o.val = 512 * t.val + n.val) :
    (iblk m c 2 t : Vec Ideal S18x512 .i16) (ix2 k n) = (m ((c : Thread nD τ).loc main_arg2) : Vec Ideal S36864x18 .i16) (ix2 o k) := by
  blk_point [iblk, V, idx t]

/-- The block of the offset steps' words. -/
theorem block_dm (c : Dev nD) (t : Fin cfg0.N) (k : Fin 18) (n : Fin 512) (o : Fin 36864) (ho : o.val = 512 * t.val + n.val) :
    (iblk m c 3 t : Vec Ideal S18x512 .i16) (ix2 k n) = (m ((c : Thread nD τ).loc main_arg3) : Vec Ideal S36864x18 .i16) (ix2 o k) := by
  blk_point [iblk, V, idx t]

/-- The block of the packed six-bit codes. -/
theorem block_b (c : Dev nD) (t : Fin cfg0.N) (k : Fin 18) (i : Fin 12) (n : Fin 512) (o : Fin 36864) (ho : o.val = 512 * t.val + n.val) :
    (iblk m c 4 t : Vec Ideal S18x12x512 .i8) (ix3 k i n) = (m ((c : Thread nD τ).loc main_arg4) : Vec Ideal S36864x18x12 .i8) (ix3 o k i) := by
  blk_point [iblk, V, idx t]

/-- The result array after the run is the reference's term. -/
theorem final (c : Dev nD) : (dats m 0 c).arrAt 5 (cfgs 0).N =
    Cert.ReferenceIdeal.Value.REF (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  have ht : t.val < 72 := lt_of_lt_of_eq t.isLt N_0
  have hp : 0 < cfg0.N := lt_of_lt_of_eq (by decide) N_0.symm
  blk_simp
  rw [after0_5]
  have hy0 : (y 0).val < 192 := (y 0).isLt
  have hy1 : (y 1).val < 512 := (y 1).isLt
  have ey : y = ix2 (⟨(y 0).val, hy0⟩ : Fin 192) (⟨(y 1).val, hy1⟩ : Fin 512) := by
    funext a
    match a with
    | ⟨0, _⟩ => rfl
    | ⟨1, _⟩ => rfl
  have ee : ((cfg0.win 5).blk t).view.emb y = ix2 (⟨(y 0).val, hy0⟩ : Fin 192) (⟨512 * t.val + (y 1).val, by omega⟩ : Fin 36864) := by
    blk_ext [idx t]
  rw [ee]
  refine ((congrArg _ ey).trans (outs_value m c hp t _ _)).trans ?_
  refine Eq.trans ?_ (Cert.ReferenceIdeal.Value.ref_at _ _ _ _ _ _ _).symm
  unfold blockValue
  have e0 := block_x m c ⟨0, hp⟩ ⟨(y 0).val, hy0⟩
  have e1 := fun i => block_q m c t ⟨(y 1).val, hy1⟩ i ⟨512 * t.val + (y 1).val, by omega⟩ rfl
  have e2 := fun k => block_d m c t k ⟨(y 1).val, hy1⟩ ⟨512 * t.val + (y 1).val, by omega⟩ rfl
  have e3 := fun k => block_dm m c t k ⟨(y 1).val, hy1⟩ ⟨512 * t.val + (y 1).val, by omega⟩ rfl
  have e4 := fun k i => block_b m c t k i ⟨(y 1).val, hy1⟩ ⟨512 * t.val + (y 1).val, by omega⟩ rfl
  rw [funext e0, funext e1, funext e2, funext e3, funext fun k => funext (e4 k)]

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference leaves its five arguments unchanged and, declaring no semaphore, ends with every counter at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Every rewrite between the kernel and its ideal form is an instance of the pair rule: a 32-bit word read as the two
    bfloat16 values it holds. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

/-- Equal arguments give the reference's term one value. -/
theorem reference_of_equal {x x' : FVec Ideal Cert.ReferenceIdeal.S192x1x4608 .bf16}
    {q q' : IVec Cert.ReferenceIdeal.S36864x2304 8} {d d' e e' : IVec Cert.ReferenceIdeal.S36864x18 16}
    {b b' : IVec Cert.ReferenceIdeal.S36864x18x12 8} (hx : x = x') (hq : q = q') (hd : d = d') (he : e = e') (hb : b = b') :
    Cert.ReferenceIdeal.Value.REF x q d e b = Cert.ReferenceIdeal.Value.REF x' q' d' e' b' := by
  rw [hx, hq, hd, he, hb]

/-- The kernel and the reference, over the extended reals and from the same arguments, end with the same result: both
    end with the reference's term of the kernel's arguments. -/
theorem algebraic : Cert.algebraic_KernelIdeal_ReferenceIdeal := by
  intro m g m' g' _ hagree
  refine ⟨fun c => Cert.ReferenceIdeal.Value.REF
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Value.final m c), (h c).2⟩)
      (Cert.KernelIdeal.Value.run_blocks m g)
  · refine (θ_run Cert.ReferenceIdeal.defs _ _).mono (fun r h c => ?_) (Cert.ReferenceIdeal.Value.run (F := Ideal) m' g')
    obtain ⟨h0, h1, h2, h3, h4⟩ := hagree c
    refine ⟨?_, (h c).2⟩
    exact (h c).1.trans (reference_of_equal h0 h1 h2 h3 h4)

/-- Everything the certificate claims: the three programs leave their arguments and counters as they must, the rewrites
    between the kernel and its ideal form are sound, and the ideal kernel computes the reference's result. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves,
  algebraic⟩

end Cert.Proof

end
